-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x64x64 : Shape := ⟨4, ![16, 256, 64, 64]⟩
abbrev S256x256x3x3 : Shape := ⟨4, ![256, 256, 3, 3]⟩
abbrev S256 : Shape := ⟨1, ![256]⟩
abbrev S16x64x64x256 : Shape := ⟨4, ![16, 64, 64, 256]⟩
abbrev S3x3x256x256 : Shape := ⟨4, ![3, 3, 256, 256]⟩
abbrev S2304x256 : Shape := ⟨2, ![2304, 256]⟩
abbrev S1x256 : Shape := ⟨2, ![1, 256]⟩
abbrev S16x256x1024 : Shape := ⟨3, ![16, 256, 1024]⟩
abbrev S1x256x1024 : Shape := ⟨3, ![1, 256, 1024]⟩
abbrev S2x2x66x66x128 : Shape := ⟨5, ![2, 2, 66, 66, 128]⟩
abbrev S1024x2304 : Shape := ⟨2, ![1024, 2304]⟩
abbrev S2x2 : Shape := ⟨2, ![2, 2]⟩
abbrev S1x66x128 : Shape := ⟨3, ![1, 66, 128]⟩
abbrev S1x1x1x66x128 : Shape := ⟨5, ![1, 1, 1, 66, 128]⟩
abbrev S64x1x128 : Shape := ⟨3, ![64, 1, 128]⟩
abbrev S1x1x64x1x128 : Shape := ⟨5, ![1, 1, 64, 1, 128]⟩
abbrev S1x1 : Shape := ⟨2, ![1, 1]⟩
abbrev S_ : Shape := ⟨0, ![]⟩
abbrev S1x1x66x66x128 : Shape := ⟨5, ![1, 1, 66, 66, 128]⟩
abbrev S66x66x128 : Shape := ⟨3, ![66, 66, 128]⟩
abbrev S64x64x128 : Shape := ⟨3, ![64, 64, 128]⟩
abbrev S1x64x64x256 : Shape := ⟨4, ![1, 64, 64, 256]⟩
abbrev S64x64x256 : Shape := ⟨3, ![64, 64, 256]⟩
abbrev S16x16x128 : Shape := ⟨3, ![16, 16, 128]⟩
abbrev S256x128 : Shape := ⟨2, ![256, 128]⟩
abbrev S1024x256 : Shape := ⟨2, ![1024, 256]⟩
abbrev S256x1024 : Shape := ⟨2, ![256, 1024]⟩

abbrev nBuf : Space → Nat
  | .hbm => 9
  | .vmem => 6
  | .smem => 0
  | _ => 0

abbrev bufTy : (tb : Table) → Fin (tcTables nBuf tb) → BufTy
  | .hbm, ⟨0, _⟩ => ⟨S16x256x64x64, .f32⟩
  | .hbm, ⟨1, _⟩ => ⟨S256x256x3x3, .f32⟩
  | .hbm, ⟨2, _⟩ => ⟨S256, .f32⟩
  | .hbm, ⟨3, _⟩ => ⟨S16x64x64x256, .f32⟩
  | .hbm, ⟨4, _⟩ => ⟨S3x3x256x256, .f32⟩
  | .hbm, ⟨5, _⟩ => ⟨S2304x256, .f32⟩
  | .hbm, ⟨6, _⟩ => ⟨S2304x256, .bf16⟩
  | .hbm, ⟨7, _⟩ => ⟨S1x256, .f32⟩
  | .hbm, ⟨8, _⟩ => ⟨S16x256x1024, .f32⟩
  | .local _ .vmem, ⟨0, _⟩ => ⟨S2304x256, .bf16⟩
  | .local _ .vmem, ⟨1, _⟩ => ⟨S1x256, .f32⟩
  | .local _ .vmem, ⟨2, _⟩ => ⟨S1x256x1024, .f32⟩
  | .local _ .vmem, ⟨3, _⟩ => ⟨S1x256x1024, .f32⟩
  | .local _ .vmem, ⟨4, _⟩ => ⟨S2x2x66x66x128, .f32⟩
  | .local _ .vmem, ⟨5, _⟩ => ⟨S1024x2304, .bf16⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c2_i32 : BitVec 32 := 2#32
  let v0 : BitVec 32 := Scalar.remsi arg0 c2_i32
  let c0_i32_764 : BitVec 32 := 0#32
  ![v0.toNat, 0]
def k0_off2 (i : grid0.Coords) : Fin 5 → Nat :=
  let arg0 : BitVec 32 := BitVec.ofNat 32 (i 0).val
  let c2_i32 : BitVec 32 := 2#32
  let v0 : BitVec 32 := Scalar.remsi arg0 c2_i32
  let c0_i32_763 : BitVec 32 := 0#32
  let c0_i32_765 : BitVec 32 := 0#32
  let c0_i32_766 : BitVec 32 := 0#32
  let c0_i32_767 : BitVec 32 := 0#32
  ![v0.toNat, 0, 0, 0, 0]
def k0_off3 (i : grid0.Coords) : Fin 4 → Nat :=
  let arg0 : BitVec 32 := BitVec.ofNat 32 (i 0).val
  let c0_i32_771 : BitVec 32 := 0#32
  let c0_i32_772 : BitVec 32 := 0#32
  let c0_i32_773 : BitVec 32 := 0#32
  ![arg0.toNat, 0, 0, 0]
def k0_off4 (i : grid0.Coords) : Fin 2 → Nat :=
  let arg0 : BitVec 32 := BitVec.ofNat 32 (i 0).val
  let c2_i32 : BitVec 32 := 2#32
  let v0 : BitVec 32 := Scalar.remsi arg0 c2_i32
  let c1_i32_778 : BitVec 32 := 1#32
  ![v0.toNat, 1]
def k0_off5 (i : grid0.Coords) : Fin 5 → Nat :=
  let arg0 : BitVec 32 := BitVec.ofNat 32 (i 0).val
  let c2_i32 : BitVec 32 := 2#32
  let v0 : BitVec 32 := Scalar.remsi arg0 c2_i32
  let c1_i32_777 : BitVec 32 := 1#32
  let c0_i32_779 : BitVec 32 := 0#32
  let c0_i32_780 : BitVec 32 := 0#32
  let c0_i32_781 : BitVec 32 := 0#32
  ![v0.toNat, 1, 0, 0, 0]
def k0_cond2 (i : grid0.Coords) : BitVec 1 :=
  let arg0 : BitVec 32 := BitVec.ofNat 32 (i 0).val
  let c1_i32_2 : BitVec 32 := 1#32
  let v6 : BitVec 32 := Scalar.addi arg0 c1_i32_2
  let c16_i32 : BitVec 32 := 16#32
  let v7 : BitVec 1 := Scalar.cmpi .slt v6 c16_i32
  let v8 : BitVec 32 := Scalar.extui v7
  let c0_i32_3 : BitVec 32 := 0#32
  let v9 : BitVec 1 := Scalar.cmpi .ne v8 c0_i32_3
  v9

def k0_off6 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_670 : BitVec 32 := 0#32
  ![v2.toNat, 0]
def k0_off7 (i : grid0.Coords) : Fin 5 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_669 : BitVec 32 := 0#32
  let c0_i32_671 : BitVec 32 := 0#32
  let c0_i32_672 : BitVec 32 := 0#32
  let c0_i32_673 : BitVec 32 := 0#32
  ![v2.toNat, 0, 0, 0, 0]
def k0_off8 (i : grid0.Coords) : Fin 4 → Nat :=
  let arg0 : BitVec 32 := BitVec.ofNat 32 (i 0).val
  let c1_i32_668 : BitVec 32 := 1#32
  let v615 : BitVec 32 := Scalar.addi arg0 c1_i32_668
  let c0_i32_677 : BitVec 32 := 0#32
  let c0_i32_678 : BitVec 32 := 0#32
  let c0_i32_679 : BitVec 32 := 0#32
  ![v615.toNat, 0, 0, 0]
def k0_off9 (i : grid0.Coords) : Fin 2 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_684 : BitVec 32 := 1#32
  ![v2.toNat, 1]
def k0_off10 (i : grid0.Coords) : Fin 5 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c1_i32_683 : BitVec 32 := 1#32
  let c0_i32_685 : BitVec 32 := 0#32
  let c0_i32_686 : BitVec 32 := 0#32
  let c0_i32_687 : BitVec 32 := 0#32
  ![v2.toNat, 1, 0, 0, 0]
def k0_off11 (i : grid0.Coords) : Fin 2 → Nat :=
  let arg0 : BitVec 32 := BitVec.ofNat 32 (i 0).val
  let c2_i32 : BitVec 32 := 2#32
  let v0 : BitVec 32 := Scalar.remsi arg0 c2_i32
  let c0_i32_6 : BitVec 32 := 0#32
  ![v0.toNat, 0]
def k0_off12 (i : grid0.Coords) : Fin 5 → Nat :=
  let arg0 : BitVec 32 := BitVec.ofNat 32 (i 0).val
  let c2_i32 : BitVec 32 := 2#32
  let v0 : BitVec 32 := Scalar.remsi arg0 c2_i32
  let c0_i32_5 : BitVec 32 := 0#32
  let c0_i32_7 : BitVec 32 := 0#32
  let c0_i32_8 : BitVec 32 := 0#32
  let c0_i32_9 : BitVec 32 := 0#32
  ![v0.toNat, 0, 0, 0, 0]
def k0_off13 (i : grid0.Coords) : Fin 2 → Nat :=
  let arg0 : BitVec 32 := BitVec.ofNat 32 (i 0).val
  let c2_i32 : BitVec 32 := 2#32
  let v0 : BitVec 32 := Scalar.remsi arg0 c2_i32
  let c1_i32_21 : BitVec 32 := 1#32
  ![v0.toNat, 1]
def k0_off14 (i : grid0.Coords) : Fin 5 → Nat :=
  let arg0 : BitVec 32 := BitVec.ofNat 32 (i 0).val
  let c2_i32 : BitVec 32 := 2#32
  let v0 : BitVec 32 := Scalar.remsi arg0 c2_i32
  let c1_i32_20 : BitVec 32 := 1#32
  let c0_i32_22 : BitVec 32 := 0#32
  let c0_i32_23 : BitVec 32 := 0#32
  let c0_i32_24 : BitVec 32 := 0#32
  ![v0.toNat, 1, 0, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2304x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x256x64x64 : Shape := ⟨4, ![16, 256, 64, 64]⟩
abbrev S256x256x3x3 : Shape := ⟨4, ![256, 256, 3, 3]⟩
abbrev S256 : Shape := ⟨1, ![256]⟩
abbrev S1024 : Shape := ⟨1, ![1024]⟩
abbrev S_ : Shape := ⟨0, ![]⟩
abbrev S16x256x66x66 : Shape := ⟨4, ![16, 256, 66, 66]⟩
abbrev S16x256x32x32 : Shape := ⟨4, ![16, 256, 32, 32]⟩
abbrev S256x256x1x1 : Shape := ⟨4, ![256, 256, 1, 1]⟩
abbrev S256x256 : Shape := ⟨2, ![256, 256]⟩
abbrev S256x16x32x32 : Shape := ⟨4, ![256, 16, 32, 32]⟩
abbrev S16x256x1024 : Shape := ⟨3, ![16, 256, 1024]⟩
abbrev S1024x1 : Shape := ⟨2, ![1024, 1]⟩
abbrev S1x256x1 : Shape := ⟨3, ![1, 256, 1]⟩

abbrev nBuf : Space → Nat
  | .hbm => 76
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S256x256x3x3, .f32⟩
  | .hbm, ⟨2, _⟩ => ⟨S256, .f32⟩
  | .hbm, ⟨3, _⟩ => ⟨S1024, .i32⟩
  | .hbm, ⟨4, _⟩ => ⟨S_, .i32⟩
  | .hbm, ⟨5, _⟩ => ⟨S_, .f32⟩
  | .hbm, ⟨6, _⟩ => ⟨S16x256x66x66, .f32⟩
  | .hbm, ⟨7, _⟩ => ⟨S_, .f32⟩
  | .hbm, ⟨8, _⟩ => ⟨S16x256x32x32, .f32⟩
  | .hbm, ⟨9, _⟩ => ⟨S16x256x32x32, .f32⟩
  | .hbm, ⟨10, _⟩ => ⟨S256x256x1x1, .f32⟩
  | .hbm, ⟨11, _⟩ => ⟨S256x256, .f32⟩
  | .hbm, ⟨12, _⟩ => ⟨S256x16x32x32, .f32⟩
  | .hbm, ⟨13, _⟩ => ⟨S16x256x32x32, .f32⟩
  | .hbm, ⟨14, _⟩ => ⟨S16x256x32x32, .f32⟩
  | .hbm, ⟨15, _⟩ => ⟨S16x256x32x32, .f32⟩
  | .hbm, ⟨16, _⟩ => ⟨S256x256x1x1, .f32⟩
  | .hbm, ⟨17, _⟩ => ⟨S256x256, .f32⟩
  | .hbm, ⟨18, _⟩ => ⟨S256x16x32x32, .f32⟩
  | .hbm, ⟨19, _⟩ => ⟨S16x256x32x32, .f32⟩
  | .hbm, ⟨20, _⟩ => ⟨S16x256x32x32, .f32⟩
  | .hbm, ⟨21, _⟩ => ⟨S16x256x32x32, .f32⟩
  | .hbm, ⟨22, _⟩ => ⟨S256x256x1x1, .f32⟩
  | .hbm, ⟨23, _⟩ => ⟨S256x256, .f32⟩
  | .hbm, ⟨24, _⟩ => ⟨S256x16x32x32, .f32⟩
  | .hbm, ⟨25, _⟩ => ⟨S16x256x32x32, .f32⟩
  | .hbm, ⟨26, _⟩ => ⟨S16x256x32x32, .f32⟩
  | .hbm, ⟨27, _⟩ => ⟨S16x256x32x32, .f32⟩
  | .hbm, ⟨28, _⟩ => ⟨S256x256x1x1, .f32⟩
  | .hbm, ⟨29, _⟩ => ⟨S256x256, .f32⟩
  | .hbm, ⟨30, _⟩ => ⟨S256x16x32x32, .f32⟩
  | .hbm, ⟨31, _⟩ => ⟨S16x256x32x32, .f32⟩
  | .hbm, ⟨32, _⟩ => ⟨S16x256x32x32, .f32⟩
  | .hbm, ⟨33, _⟩ => ⟨S16x256x32x32, .f32⟩
  | .hbm, ⟨34, _⟩ => ⟨S256x256x1x1, .f32⟩
  | .hbm, ⟨35, _⟩ => ⟨S256x256, .f32⟩
  | .hbm, ⟨36, _⟩ => ⟨S256x16x32x32, .f32⟩
  | .hbm, ⟨37, _⟩ => ⟨S16x256x32x32, .f32⟩
  | .hbm, ⟨38, _⟩ => ⟨S16x256x32x32, .f32⟩
  | .hbm, ⟨39, _⟩ => ⟨S16x256x32x32, .f32⟩
  | .hbm, ⟨40, _⟩ => ⟨S256x256x1x1, .f32⟩
  | .hbm, ⟨41, _⟩ => ⟨S256x256, .f32⟩
  | .hbm, ⟨42, _⟩ => ⟨S256x16x32x32, .f32⟩
  | .hbm, ⟨43, _⟩ => ⟨S16x256x32x32, .f32⟩
  | .hbm, ⟨44, _⟩ => ⟨S16x256x32x32, .f32⟩
  | .hbm, ⟨45, _⟩ => ⟨S16x256x32x32, .f32⟩
  | .hbm, ⟨46, _⟩ => ⟨S256x256x1x1, .f32⟩
  | .hbm, ⟨47, _⟩ => ⟨S256x256, .f32⟩
  | .hbm, ⟨48, _⟩ => ⟨S256x16x32x32, .f32⟩
  | .hbm, ⟨49, _⟩ => ⟨S16x256x32x32, .f32⟩
  | .hbm, ⟨50, _⟩ => ⟨S16x256x32x32, .f32⟩
  | .hbm, ⟨51, _⟩ => ⟨S16x256x32x32, .f32⟩
  | .hbm, ⟨52, _⟩ => ⟨S256x256x1x1, .f32⟩
  | .hbm, ⟨53, _⟩ => ⟨S256x256, .f32⟩
  | .hbm, ⟨54, _⟩ => ⟨S256x16x32x32, .f32⟩
  | .hbm, ⟨55, _⟩ => ⟨S16x256x32x32, .f32⟩
  | .hbm, ⟨56, _⟩ => ⟨S16x256x32x32, .f32⟩
  | .hbm, ⟨57, _⟩ => ⟨S16x256x32x32, .f32⟩
  | .hbm, ⟨58, _⟩ => ⟨S256x256x1x1, .f32⟩
  | .hbm, ⟨59, _⟩ => ⟨S256x256, .f32⟩
  | .hbm, ⟨60, _⟩ => ⟨S256x16x32x32, .f32⟩
  | .hbm, ⟨61, _⟩ => ⟨S16x256x32x32, .f32⟩
  | .hbm, ⟨62, _⟩ => ⟨S16x256x32x32, .f32⟩
  | .hbm, ⟨63, _⟩ => ⟨S16x256x1024, .f32⟩
  | .hbm, ⟨64, _⟩ => ⟨S_, .i32⟩
  | .hbm, ⟨65, _⟩ => ⟨S1024, .i32⟩
  | .hbm, ⟨66, _⟩ => ⟨S1024, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S1024x1, .i32⟩
  | .hbm, ⟨72, _⟩ => ⟨S16x256x1024, .f32⟩
  | .hbm, ⟨73, _⟩ => ⟨S1x256x1, .f32⟩
  | .hbm, ⟨74, _⟩ => ⟨S16x256x1024, .f32⟩
  | .hbm, ⟨75, _⟩ => ⟨S16x256x1024, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_c_1 : Ref sig .tc := ⟨.hbm, 64, rfl⟩
abbrev main_v57 : Ref sig .tc := ⟨.hbm, 65, rfl⟩
abbrev main_v58 : Ref sig .tc := ⟨.hbm, 66, rfl⟩
abbrev main_c_2 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩

abbrev nD : Nat := 1
abbrev τ : Topo := Topo.v7x

variable {F : FTy → Type} [FloatOps F]
-- ==== Proof.KernelIdeal.Names.lean ====
/-
  Names for the pieces of memory the kernel works on.

  The scratch image buffer holds four PLANES: slot `s` (0 or 1, the double buffer) times half `t` (which 128 of the
  256 channels). A plane is a 66×66×128 picture; its INTERIOR is the 64×64×128 middle that a copy fills, the rest is
  the zero border. A batch's picture in HBM is cut in its two channel halves, each the source of one copy. Every
  slice the body takes is shown to be one of these names.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.Routed
public import Idealize.ShloMosaic.Lib.Ring
public import Idealize.ShloMosaic.Lib.Affine
public import Idealize.ShloMosaic.Lib.Tactic
public import Idealize.ShloMosaic.Lib.WordCmp

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

abbrev 𝒱₀ : Variants := Variants.none

/-! ## The buffers -/

/-- The transposed input in HBM. -/
abbrev xM : Memref sig .tc .hbm S16x64x64x256 .f32 := Memref.whole main_v0
/-- The four planes. -/
abbrev bufM : Memref sig .tc .vmem S2x2x66x66x128 .f32 := Memref.whole cc0_scratch0
/-- The patch matrix. -/
abbrev catM : Memref sig .tc .vmem S1024x2304 .bf16 := Memref.whole cc0_scratch1

/-! ## Offsets -/

abbrev plOff (s t : Fin 2) : Fin 5 → Nat := ![s.val, t.val, 0, 0, 0]
theorem plOff_inb (s t : Fin 2) : ∀ a, plOff s t a + S1x1x66x66x128.size a ≤ S2x2x66x66x128.size a := by
  revert s t; decide
abbrev semOff (s t : Fin 2) : Fin 2 → Nat := ![s.val, t.val]
theorem semOff_inb (s t : Fin 2) : ∀ a, semOff s t a + S1x1.size a ≤ S2x2.size a := by
  revert s t; decide
abbrev batOff (b : Fin 16) : Fin 4 → Nat := ![b.val, 0, 0, 0]
theorem batOff_inb (b : Fin 16) : ∀ a, batOff b a + S1x64x64x256.size a ≤ S16x64x64x256.size a := by
  revert b; decide
abbrev halfOff (t : Fin 2) : Fin 3 → Nat := ![0, 0, 128 * t.val]
theorem halfOff_inb (t : Fin 2) : ∀ a, halfOff t a + S64x64x128.size a ≤ S64x64x256.size a := by
  revert t; decide

instance (s t : Fin 2) : ClosedOff (plOff s t) := ⟨plOff s t, rfl⟩
instance (s t : Fin 2) : ClosedOff (semOff s t) := ⟨semOff s t, rfl⟩
instance (b : Fin 16) : ClosedOff (batOff b) := ⟨batOff b, rfl⟩
instance (t : Fin 2) : ClosedOff (halfOff t) := ⟨halfOff t, rfl⟩

/-! ## The names -/

/-- Plane `t` of slot `s`. -/
def pl (s t : Fin 2) : Memref sig .tc .vmem S66x66x128 .f32 :=
  (bufM.slice (Rect.unit (s := S2x2x66x66x128) (plOff s t) S1x1x66x66x128.size (plOff_inb s t)) (fun _ => rfl)).squeeze S66x66x128 squeezes_S1x1x66x66x128_S66x66x128
/-- Its interior: where a copy lands. -/
def inn (s t : Fin 2) : Memref sig .tc .vmem S64x64x128 .f32 :=
  (pl s t).slice (Rect.unit (s := S66x66x128) ![1, 1, 0] S64x64x128.size inb_S66x66x128_S64x64x128_1_1_0) (fun _ => rfl)
/-- Batch `b` of the input. -/
def bat (b : Fin 16) : Memref sig .tc .hbm S64x64x256 .f32 :=
  (xM.slice (Rect.unit (s := S16x64x64x256) (batOff b) S1x64x64x256.size (batOff_inb b)) (fun _ => rfl)).squeeze S64x64x256 squeezes_S1x64x64x256_S64x64x256
/-- Channel half `t` of batch `b`: a copy's source. -/
def src (b : Fin 16) (t : Fin 2) : Memref sig .tc .hbm S64x64x128 .f32 :=
  (bat b).slice (Rect.unit (s := S64x64x256) (halfOff t) S64x64x128.size (halfOff_inb t)) (fun _ => rfl)
/-- The semaphore of plane `(s, t)`. -/
def csm (s t : Fin 2) : DmaSems sig S_ :=
  (cc0_scratch2.slice (Rect.unit (s := S2x2) (semOff s t) S1x1.size (semOff_inb s t))).squeeze S_ squeezes_S1x1_S_

/-! ## The printed offsets in closed form

The grid has 16 points, so the word arithmetic on the point's number is a table of 16 rows. -/

/-- The grid point's number. -/
abbrev pt (i : grid0.Coords) : ℕ := (i 0).val

theorem pt_lt (i : grid0.Coords) : pt i < 16 := (i 0).isLt

theorem word_rem : ∀ n : Fin 16, (Scalar.remsi (BitVec.ofNat 32 n.val) 2#32).toNat = (Ring.sl 2 n.val).val := by decide
theorem word_rem_succ : ∀ n : Fin 16, (Scalar.remsi (Scalar.addi (BitVec.ofNat 32 n.val) 1#32) 2#32).toNat = (Ring.sl 2 (n.val + 1)).val := by decide
theorem word_val : ∀ n : Fin 16, (BitVec.ofNat 32 n.val).toNat = (Ring.bk 16 n.val).val := by decide
theorem word_succ : ∀ n : Fin 16, n.val + 1 < 16 → (Scalar.addi (BitVec.ofNat 32 n.val) 1#32).toNat = (Ring.bk 16 (n.val + 1)).val := by decide

theorem cond1_iff (i : grid0.Coords) : k0_cond1 i = 1#1 ↔ pt i = 0 := by
  have h : ∀ n : Fin 16, (Scalar.cmpi .ne (Scalar.extui (Scalar.cmpi .eq (BitVec.ofNat 32 n.val) 0#32) : BitVec 32) 0#32) = 1#1 ↔ n.val = 0 := by decide
  exact h (i 0)
theorem cond2_iff (i : grid0.Coords) : k0_cond2 i = 1#1 ↔ pt i + 1 < 16 := by
  have h : ∀ n : Fin 16, (Scalar.cmpi .ne (Scalar.extui (Scalar.cmpi .slt (Scalar.addi (BitVec.ofNat 32 n.val) 1#32) 16#32) : BitVec 32) 0#32) = 1#1 ↔ n.val + 1 < 16 := by decide
  exact h (i 0)

section Offsets
variable (i : grid0.Coords)

theorem off1_eq : k0_off1 i = semOff (Ring.sl 2 (pt i)) 0 := congrArg (fun x : ℕ => (![x, 0] : Fin 2 → ℕ)) (word_rem (i 0))
theorem off4_eq : k0_off4 i = semOff (Ring.sl 2 (pt i)) 1 := congrArg (fun x : ℕ => (![x, 1] : Fin 2 → ℕ)) (word_rem (i 0))
theorem off11_eq : k0_off11 i = semOff (Ring.sl 2 (pt i)) 0 := congrArg (fun x : ℕ => (![x, 0] : Fin 2 → ℕ)) (word_rem (i 0))
theorem off13_eq : k0_off13 i = semOff (Ring.sl 2 (pt i)) 1 := congrArg (fun x : ℕ => (![x, 1] : Fin 2 → ℕ)) (word_rem (i 0))
theorem off6_eq : k0_off6 i = semOff (Ring.sl 2 (pt i + 1)) 0 := congrArg (fun x : ℕ => (![x, 0] : Fin 2 → ℕ)) (word_rem_succ (i 0))
theorem off9_eq : k0_off9 i = semOff (Ring.sl 2 (pt i + 1)) 1 := congrArg (fun x : ℕ => (![x, 1] : Fin 2 → ℕ)) (word_rem_succ (i 0))
theorem off2_eq : k0_off2 i = plOff (Ring.sl 2 (pt i)) 0 := congrArg (fun x : ℕ => (![x, 0, 0, 0, 0] : Fin 5 → ℕ)) (word_rem (i 0))
theorem off5_eq : k0_off5 i = plOff (Ring.sl 2 (pt i)) 1 := congrArg (fun x : ℕ => (![x, 1, 0, 0, 0] : Fin 5 → ℕ)) (word_rem (i 0))
theorem off12_eq : k0_off12 i = plOff (Ring.sl 2 (pt i)) 0 := congrArg (fun x : ℕ => (![x, 0, 0, 0, 0] : Fin 5 → ℕ)) (word_rem (i 0))
theorem off14_eq : k0_off14 i = plOff (Ring.sl 2 (pt i)) 1 := congrArg (fun x : ℕ => (![x, 1, 0, 0, 0] : Fin 5 → ℕ)) (word_rem (i 0))
theorem off7_eq : k0_off7 i = plOff (Ring.sl 2 (pt i + 1)) 0 := congrArg (fun x : ℕ => (![x, 0, 0, 0, 0] : Fin 5 → ℕ)) (word_rem_succ (i 0))
theorem off10_eq : k0_off10 i = plOff (Ring.sl 2 (pt i + 1)) 1 := congrArg (fun x : ℕ => (![x, 1, 0, 0, 0] : Fin 5 → ℕ)) (word_rem_succ (i 0))
theorem off3_eq : k0_off3 i = batOff (Ring.bk 16 (pt i)) := congrArg (fun x : ℕ => (![x, 0, 0, 0] : Fin 4 → ℕ)) (word_val (i 0))
theorem off8_eq (h : pt i + 1 < 16) : k0_off8 i = batOff (Ring.bk 16 (pt i + 1)) :=
  congrArg (fun x : ℕ => (![x, 0, 0, 0] : Fin 4 → ℕ)) (word_succ (i 0) h)

instance : ClosedOff (k0_off2 i) := ⟨plOff (Ring.sl 2 (pt i)) 0, off2_eq i⟩
instance : ClosedOff (k0_off5 i) := ⟨plOff (Ring.sl 2 (pt i)) 1, off5_eq i⟩
instance : ClosedOff (k0_off12 i) := ⟨plOff (Ring.sl 2 (pt i)) 0, off12_eq i⟩
instance : ClosedOff (k0_off14 i) := ⟨plOff (Ring.sl 2 (pt i)) 1, off14_eq i⟩
instance : ClosedOff (k0_off7 i) := ⟨plOff (Ring.sl 2 (pt i + 1)) 0, off7_eq i⟩
instance : ClosedOff (k0_off10 i) := ⟨plOff (Ring.sl 2 (pt i + 1)) 1, off10_eq i⟩

end Offsets

/-! ## The body's slices under those names -/

section Canon
variable (i : grid0.Coords)

theorem csm_congr {off : Fin 2 → Nat} {s t : Fin 2} (e : off = semOff s t) (hh) :
    (cc0_scratch2.slice (Rect.unit (s := S2x2) off S1x1.size hh)).squeeze S_ squeezes_S1x1_S_ = csm s t :=
  congrArg (fun A : DmaSems sig S1x1 => A.squeeze S_ squeezes_S1x1_S_) (SemArray.slice_unit_congr _ e _ _)
theorem pl_congr {off : Fin 5 → Nat} {s t : Fin 2} (e : off = plOff s t) (hh hs) :
    (bufM.slice (Rect.unit (s := S2x2x66x66x128) off S1x1x66x66x128.size hh) hs).squeeze S66x66x128 squeezes_S1x1x66x66x128_S66x66x128 = pl s t :=
  congrArg (fun M : Memref sig .tc .vmem S1x1x66x66x128 .f32 => M.squeeze S66x66x128 squeezes_S1x1x66x66x128_S66x66x128) (Memref.slice_unit_congr _ e _ _ _ _)
theorem bat_congr {off : Fin 4 → Nat} {b : Fin 16} (e : off = batOff b) (hh hs) :
    (xM.slice (Rect.unit (s := S16x64x64x256) off S1x64x64x256.size hh) hs).squeeze S64x64x256 squeezes_S1x64x64x256_S64x64x256 = bat b :=
  congrArg (fun M : Memref sig .tc .hbm S1x64x64x256 .f32 => M.squeeze S64x64x256 squeezes_S1x64x64x256_S64x64x256) (Memref.slice_unit_congr _ e _ _ _ _)

@[sl_canon] theorem sem1 (hh) : (cc0_scratch2.slice (Rect.unit (s := S2x2) (k0_off1 i) S1x1.size hh)).squeeze S_ squeezes_S1x1_S_ = csm (Ring.sl 2 (pt i)) 0 := csm_congr (off1_eq i) _
@[sl_canon] theorem sem4 (hh) : (cc0_scratch2.slice (Rect.unit (s := S2x2) (k0_off4 i) S1x1.size hh)).squeeze S_ squeezes_S1x1_S_ = csm (Ring.sl 2 (pt i)) 1 := csm_congr (off4_eq i) _
@[sl_canon] theorem sem11 (hh) : (cc0_scratch2.slice (Rect.unit (s := S2x2) (k0_off11 i) S1x1.size hh)).squeeze S_ squeezes_S1x1_S_ = csm (Ring.sl 2 (pt i)) 0 := csm_congr (off11_eq i) _
@[sl_canon] theorem sem13 (hh) : (cc0_scratch2.slice (Rect.unit (s := S2x2) (k0_off13 i) S1x1.size hh)).squeeze S_ squeezes_S1x1_S_ = csm (Ring.sl 2 (pt i)) 1 := csm_congr (off13_eq i) _
@[sl_canon] theorem sem6 (hh) : (cc0_scratch2.slice (Rect.unit (s := S2x2) (k0_off6 i) S1x1.size hh)).squeeze S_ squeezes_S1x1_S_ = csm (Ring.sl 2 (pt i + 1)) 0 := csm_congr (off6_eq i) _
@[sl_canon] theorem sem9 (hh) : (cc0_scratch2.slice (Rect.unit (s := S2x2) (k0_off9 i) S1x1.size hh)).squeeze S_ squeezes_S1x1_S_ = csm (Ring.sl 2 (pt i + 1)) 1 := csm_congr (off9_eq i) _

@[sl_canon] theorem pl2 (hh hs) : (bufM.slice (Rect.unit (s := S2x2x66x66x128) (k0_off2 i) S1x1x66x66x128.size hh) hs).squeeze S66x66x128 squeezes_S1x1x66x66x128_S66x66x128 = pl (Ring.sl 2 (pt i)) 0 := pl_congr (off2_eq i) _ _
@[sl_canon] theorem pl5 (hh hs) : (bufM.slice (Rect.unit (s := S2x2x66x66x128) (k0_off5 i) S1x1x66x66x128.size hh) hs).squeeze S66x66x128 squeezes_S1x1x66x66x128_S66x66x128 = pl (Ring.sl 2 (pt i)) 1 := pl_congr (off5_eq i) _ _
@[sl_canon] theorem pl12 (hh hs) : (bufM.slice (Rect.unit (s := S2x2x66x66x128) (k0_off12 i) S1x1x66x66x128.size hh) hs).squeeze S66x66x128 squeezes_S1x1x66x66x128_S66x66x128 = pl (Ring.sl 2 (pt i)) 0 := pl_congr (off12_eq i) _ _
@[sl_canon] theorem pl14 (hh hs) : (bufM.slice (Rect.unit (s := S2x2x66x66x128) (k0_off14 i) S1x1x66x66x128.size hh) hs).squeeze S66x66x128 squeezes_S1x1x66x66x128_S66x66x128 = pl (Ring.sl 2 (pt i)) 1 := pl_congr (off14_eq i) _ _
@[sl_canon] theorem pl7 (hh hs) : (bufM.slice (Rect.unit (s := S2x2x66x66x128) (k0_off7 i) S1x1x66x66x128.size hh) hs).squeeze S66x66x128 squeezes_S1x1x66x66x128_S66x66x128 = pl (Ring.sl 2 (pt i + 1)) 0 := pl_congr (off7_eq i) _ _
@[sl_canon] theorem pl10 (hh hs) : (bufM.slice (Rect.unit (s := S2x2x66x66x128) (k0_off10 i) S1x1x66x66x128.size hh) hs).squeeze S66x66x128 squeezes_S1x1x66x66x128_S66x66x128 = pl (Ring.sl 2 (pt i + 1)) 1 := pl_congr (off10_eq i) _ _

@[sl_canon] theorem bat3 (hh hs) : (xM.slice (Rect.unit (s := S16x64x64x256) (k0_off3 i) S1x64x64x256.size hh) hs).squeeze S64x64x256 squeezes_S1x64x64x256_S64x64x256 = bat (Ring.bk 16 (pt i)) := bat_congr (off3_eq i) _ _
@[sl_canon] theorem bat8 (h : pt i + 1 < 16) (hh hs) : (xM.slice (Rect.unit (s := S16x64x64x256) (k0_off8 i) S1x64x64x256.size hh) hs).squeeze S64x64x256 squeezes_S1x64x64x256_S64x64x256 = bat (Ring.bk 16 (pt i + 1)) := bat_congr (off8_eq i h) _ _
@[sl_canon] theorem bat0 (hh hs) : (xM.slice (Rect.unit (s := S16x64x64x256) ![0, 0, 0, 0] S1x64x64x256.size hh) hs).squeeze S64x64x256 squeezes_S1x64x64x256_S64x64x256 = bat 0 := bat_congr (b := 0) rfl _ _

@[sl_canon] theorem inn_eq (s t : Fin 2) (hh hs) : (pl s t).slice (Rect.unit (s := S66x66x128) ![1, 1, 0] S64x64x128.size hh) hs = inn s t := rfl
@[sl_canon] theorem src0_eq (b : Fin 16) (hh hs) : (bat b).slice (Rect.unit (s := S64x64x256) ![0, 0, 0] S64x64x128.size hh) hs = src b 0 := Memref.slice_unit_congr _ (by decide) _ _ _ (fun _ => rfl)
@[sl_canon] theorem src1_eq (b : Fin 16) (hh hs) : (bat b).slice (Rect.unit (s := S64x64x256) ![0, 0, 128] S64x64x128.size hh) hs = src b 1 := Memref.slice_unit_congr _ (by decide) _ _ _ (fun _ => rfl)

end Canon

end Cert.Proof.KI
-- ==== Proof.KernelIdeal.Memory.lean ====
/-
  The memory behind the names of Names.lean, element by element, and what the planes hold.

  Each plane of the scratch buffer is its interior and its border, apart; the eight sets make up the buffer. The
  picture a landed copy completes is `padded`: the batch's half in the interior, zero on the border.
-/
module

public import proofs.«01_k».proof.Proof.KernelIdeal.Names
public import Idealize.ShloMosaic.Lib.ValueLayout

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-! ## Where the names' elements lie -/

/-- Plane `(s, t)` at row `y 0`, column `y 1`, lane `y 2`. -/
def plIx (s t : Fin 2) (y : S66x66x128.Idx) : S2x2x66x66x128.Idx := ValueIdx.ix5 s t (y 0) (y 1) (y 2)
/-- The interior of plane `(s, t)` at `x`. -/
def innIx (s t : Fin 2) (x : S64x64x128.Idx) : S2x2x66x66x128.Idx :=
  ValueIdx.ix5 s t (⟨(x 0).val + 1, by have : (x 0).val < 64 := (x 0).isLt; omega⟩ : Fin 66)
    (⟨(x 1).val + 1, by have : (x 1).val < 64 := (x 1).isLt; omega⟩ : Fin 66) (x 2)
/-- Batch `b`, half `t` at `x`. -/
def srcIx (b : Fin 16) (t : Fin 2) (x : S64x64x128.Idx) : S16x64x64x256.Idx :=
  ValueIdx.ix4 b (x 0) (x 1) (⟨128 * t.val + (x 2).val, by
    have h2 : (x 2).val < 128 := (x 2).isLt
    have := t.isLt; omega⟩ : Fin 256)

/-- The element of the buffer at plane `(s, t)`, row `y 0`, column `y 1`, lane `y 2`. -/
theorem pl_emb (s t : Fin 2) (y : S66x66x128.Idx) :
    (pl s t).view.emb y = plIx s t y := by
  have e : Shape.reshapeEquiv (squeezes_S1x1x66x66x128_S66x66x128).numel_eq y = (ValueIdx.ix5 (0 : Fin 1) (0 : Fin 1) (y 0) (y 1) (y 2) : S1x1x66x66x128.Idx) := by
    conv_lhs => rw [ValueIdx.eq_ix3 y]
    exact ValueIdx.reshapeEquiv_ix3_11abc _ _ _ _
  show (Rect.unit (s := S2x2x66x66x128) (plOff s t) S1x1x66x66x128.size (plOff_inb s t)).emb (Shape.reshapeEquiv _ y) = _
  rw [e]
  funext a; apply Fin.ext; rw [Rect.emb_apply]
  match a with
  | ⟨0, _⟩ => show s.val + 1 * 0 = s.val; omega
  | ⟨1, _⟩ => show t.val + 1 * 0 = t.val; omega
  | ⟨2, _⟩ => show 0 + 1 * (y 0).val = (y 0).val; omega
  | ⟨3, _⟩ => show 0 + 1 * (y 1).val = (y 1).val; omega
  | ⟨4, _⟩ => show 0 + 1 * (y 2).val = (y 2).val; omega

/-- The interior's element `x` is the plane's at one row and one column in. -/
theorem inn_emb (s t : Fin 2) (x : S64x64x128.Idx) :
    (inn s t).view.emb x = innIx s t x := by
  refine (pl_emb s t ((Rect.unit (s := S66x66x128) ![1, 1, 0] S64x64x128.size inb_S66x66x128_S64x64x128_1_1_0).emb x)).trans ?_
  funext a; apply Fin.ext
  match a with
  | ⟨0, _⟩ => rfl
  | ⟨1, _⟩ => rfl
  | ⟨2, _⟩ => show 1 + 1 * (x 0).val = (x 0).val + 1; omega
  | ⟨3, _⟩ => show 1 + 1 * (x 1).val = (x 1).val + 1; omega
  | ⟨4, _⟩ => show 0 + 1 * (x 2).val = (x 2).val; omega

/-- Half `t` of batch `b`: channel `128 t + lane`. -/
theorem src_emb (b : Fin 16) (t : Fin 2) (x : S64x64x128.Idx) :
    (src b t).view.emb x = srcIx b t x := by
  have e : ∀ y : S64x64x256.Idx, Shape.reshapeEquiv (squeezes_S1x64x64x256_S64x64x256).numel_eq y = (ValueIdx.ix4 (0 : Fin 1) (y 0) (y 1) (y 2) : S1x64x64x256.Idx) := fun y => by
    conv_lhs => rw [ValueIdx.eq_ix3 y]
    exact ValueIdx.reshapeEquiv_ix3_1abc _ _ _ _
  show (Rect.unit (s := S16x64x64x256) (batOff b) S1x64x64x256.size (batOff_inb b)).emb
    (Shape.reshapeEquiv _ ((Rect.unit (s := S64x64x256) (halfOff t) S64x64x128.size (halfOff_inb t)).emb x)) = _
  rw [e]
  funext a; apply Fin.ext; rw [Rect.emb_apply]
  match a with
  | ⟨0, _⟩ => show b.val + 1 * 0 = b.val; omega
  | ⟨1, _⟩ => show 0 + 1 * (0 + 1 * (x 0).val) = (x 0).val; omega
  | ⟨2, _⟩ => show 0 + 1 * (0 + 1 * (x 1).val) = (x 1).val; omega
  | ⟨3, _⟩ => show 0 + 1 * (128 * t.val + 1 * (x 2).val) = 128 * t.val + (x 2).val; omega

/-! ## Planes, interiors, borders as sets of elements -/

/-- The elements of plane `(s, t)`. -/
abbrev plSet (s t : Fin 2) : Finset S2x2x66x66x128.Idx := (pl s t).view.set
/-- Those of its interior. -/
abbrev innSet (s t : Fin 2) : Finset S2x2x66x66x128.Idx := (inn s t).view.set
/-- Those of its border. -/
def bdSet (s t : Fin 2) : Finset S2x2x66x66x128.Idx := plSet s t \ innSet s t

/-- Row and column of an element lie in the interior. -/
abbrev Inside (y : S2x2x66x66x128.Idx) : Prop := (1 ≤ (y 2).val ∧ (y 2).val < 65) ∧ 1 ≤ (y 3).val ∧ (y 3).val < 65

theorem mem_plSet (s t : Fin 2) (y : S2x2x66x66x128.Idx) : y ∈ plSet s t ↔ (y 0).val = s.val ∧ (y 1).val = t.val := by
  constructor
  · intro h
    obtain ⟨x, -, hx⟩ := Finset.mem_map.mp h
    have hx : plIx s t x = y := (pl_emb s t x).symm.trans hx
    subst hx; exact ⟨rfl, rfl⟩
  · rintro ⟨h0, h1⟩
    refine Finset.mem_map.mpr ⟨(ValueIdx.ix3 (y 2) (y 3) (y 4) : S66x66x128.Idx), Finset.mem_univ _, (pl_emb s t _).trans ?_⟩
    funext a
    match a with
    | ⟨0, _⟩ => exact Fin.ext h0.symm
    | ⟨1, _⟩ => exact Fin.ext h1.symm
    | ⟨2, _⟩ => rfl
    | ⟨3, _⟩ => rfl
    | ⟨4, _⟩ => rfl

theorem mem_innSet (s t : Fin 2) (y : S2x2x66x66x128.Idx) :
    y ∈ innSet s t ↔ ((y 0).val = s.val ∧ (y 1).val = t.val) ∧ Inside y := by
  constructor
  · intro h
    obtain ⟨x, -, hx⟩ := Finset.mem_map.mp h
    have hx : innIx s t x = y := (inn_emb s t x).symm.trans hx
    subst hx
    have a0 : (x 0).val < 64 := (x 0).isLt
    have a1 : (x 1).val < 64 := (x 1).isLt
    refine ⟨⟨rfl, rfl⟩, ⟨?_, ?_⟩, ?_, ?_⟩
    · show 1 ≤ (x 0).val + 1; omega
    · show (x 0).val + 1 < 65; omega
    · show 1 ≤ (x 1).val + 1; omega
    · show (x 1).val + 1 < 65; omega
  · rintro ⟨⟨h0, h1⟩, ⟨h2, h3⟩, h4, h5⟩
    refine Finset.mem_map.mpr ⟨(ValueIdx.ix3 (⟨(y 2).val - 1, by omega⟩ : Fin 64) (⟨(y 3).val - 1, by omega⟩ : Fin 64) (y 4) : S64x64x128.Idx), Finset.mem_univ _, (inn_emb s t _).trans ?_⟩
    funext a
    match a with
    | ⟨0, _⟩ => exact Fin.ext h0.symm
    | ⟨1, _⟩ => exact Fin.ext h1.symm
    | ⟨2, _⟩ => exact Fin.ext (show (y 2).val - 1 + 1 = (y 2).val by omega)
    | ⟨3, _⟩ => exact Fin.ext (show (y 3).val - 1 + 1 = (y 3).val by omega)
    | ⟨4, _⟩ => rfl

theorem mem_bdSet (s t : Fin 2) (y : S2x2x66x66x128.Idx) :
    y ∈ bdSet s t ↔ ((y 0).val = s.val ∧ (y 1).val = t.val) ∧ ¬ Inside y := by
  unfold bdSet
  rw [Finset.mem_sdiff, mem_plSet, mem_innSet]
  tauto

theorem innSet_subset (s t : Fin 2) : innSet s t ⊆ plSet s t := fun y h => (mem_plSet s t y).mpr ((mem_innSet s t y).mp h).1

/-- The eight sets that make up the buffer: per plane the interior and the border. -/
def block (q : (Fin 2 × Fin 2) × Fin 2) : Finset S2x2x66x66x128.Idx :=
  if q.2 = 0 then innSet q.1.1 q.1.2 else bdSet q.1.1 q.1.2

theorem mem_block (q : (Fin 2 × Fin 2) × Fin 2) (y : S2x2x66x66x128.Idx) :
    y ∈ block q ↔ ((y 0).val = q.1.1.val ∧ (y 1).val = q.1.2.val) ∧ (q.2 = 0 ↔ Inside y) := by
  unfold block
  split
  · rename_i h; rw [mem_innSet]; simp only [h, true_iff]
  · rename_i h; rw [mem_bdSet]; simp only [h, false_iff]

theorem block_disjoint : ∀ q q' : (Fin 2 × Fin 2) × Fin 2, q ≠ q' → Disjoint (block q) (block q') := by
  rintro ⟨⟨s, t⟩, k⟩ ⟨⟨s', t'⟩, k'⟩ hne
  rw [Finset.disjoint_left]; intro y hy hy'
  rw [mem_block] at hy hy'
  obtain ⟨⟨a, b⟩, e⟩ := hy; obtain ⟨⟨a', b'⟩, e'⟩ := hy'
  apply hne
  have es : s = s' := Fin.ext (a.symm.trans a')
  have et : t = t' := Fin.ext (b.symm.trans b')
  have ek : k = k' := by
    have hk : k = 0 ↔ k' = 0 := e.trans e'.symm
    clear e e' a a' b b' es et hne
    revert k k'; decide
  rw [es, et, ek]

theorem block_cover : (Finset.univ : Finset ((Fin 2 × Fin 2) × Fin 2)).biUnion block = Finset.univ := by
  ext y; simp only [Finset.mem_biUnion, Finset.mem_univ, true_and, iff_true]
  by_cases h : Inside y
  · refine ⟨((y 0, y 1), 0), ?_⟩
    rw [mem_block]; exact ⟨⟨rfl, rfl⟩, fun _ => h, fun _ => rfl⟩
  · refine ⟨((y 0, y 1), 1), ?_⟩
    rw [mem_block]; exact ⟨⟨rfl, rfl⟩, fun e => absurd (show (1 : Fin 2) = 0 from e) (by decide), fun e => absurd e h⟩

/-! ## What the planes hold -/

/-- The constant the borders are filled with. -/
def zeroE : Elt F .f32 := Scalar.ofBits .f32 0#32

/-- The picture of batch `b` with its zero border, in every slot: at plane `(s, t)` the channels `128 t + lane`. -/
def padded (XA : S16x64x64x256.Idx → Elt F .f32) (b : Fin 16) : S2x2x66x66x128.Idx → Elt F .f32 := fun y =>
  if h : Inside y then
    XA (ValueIdx.ix4 b (⟨(y 2).val - 1, by omega⟩ : Fin 64) (⟨(y 3).val - 1, by omega⟩ : Fin 64)
      (⟨128 * (y 1).val + (y 4).val, by
        have h1 : (y 1).val < 2 := (y 1).isLt
        have h4 : (y 4).val < 128 := (y 4).isLt
        omega⟩ : Fin 256))
  else zeroE

theorem padded_border (XA : S16x64x64x256.Idx → Elt F .f32) (b : Fin 16) (y : S2x2x66x66x128.Idx) (h : ¬ Inside y) :
    padded XA b y = zeroE := dif_neg h

theorem padded_inn (XA : S16x64x64x256.Idx → Elt F .f32) (b : Fin 16) (s t : Fin 2) (x : S64x64x128.Idx) :
    padded XA b (innIx s t x) = XA (srcIx b t x) := by
  have a0 : (x 0).val < 64 := (x 0).isLt
  have a1 : (x 1).val < 64 := (x 1).isLt
  have hin : Inside (innIx s t x) :=
    ⟨⟨show 1 ≤ (x 0).val + 1 by omega, show (x 0).val + 1 < 65 by omega⟩, show 1 ≤ (x 1).val + 1 by omega, show (x 1).val + 1 < 65 by omega⟩
  unfold padded
  rw [dif_pos hin]
  refine congrArg XA ?_
  funext a
  apply Fin.ext
  match a with
  | ⟨0, _⟩ => rfl
  | ⟨1, _⟩ => exact Nat.add_sub_cancel (x 0).val 1
  | ⟨2, _⟩ => exact Nat.add_sub_cancel (x 1).val 1
  | ⟨3, _⟩ => rfl

end Cert.Proof.KI
-- ==== Proof.KernelIdeal.Pieces.lean ====
/-
  What the kernel owns, piece by piece: an interior, a border, a plane, a batch's halves, a semaphore, a copy in flight.
-/
module

public import proofs.«01_k».proof.Proof.KernelIdeal.Memory

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ
section Pieces
variable (c : Dev nD) (XA : Buf (Elt F) (xM.view.loc (c : Thread nD τ)))

/-- Contents of the buffer of planes. -/
abbrev BufC (c : Dev nD) : Type := Buf (Elt F) ((c : Thread nD τ).loc cc0_scratch0)

/-- The whole buffer at `f`. -/
abbrev bufP (f : Buf (Elt F) (bufM.view.loc (c : Thread nD τ))) : sProp 𝕄 := bufM.view.loc (c : Thread nD τ) ↦[bufM.view.set]{fullShare} f
/-- The interior of plane `(s, t)` at `f`. -/
abbrev innP (s t : Fin 2) (f : Buf (Elt F) ((inn s t).view.loc (c : Thread nD τ))) : sProp 𝕄 :=
  (inn s t).view.loc (c : Thread nD τ) ↦[(inn s t).view.set]{fullShare} f
/-- The plane whole at `f`. -/
abbrev plP (s t : Fin 2) (f : Buf (Elt F) ((pl s t).view.loc (c : Thread nD τ))) : sProp 𝕄 :=
  (pl s t).view.loc (c : Thread nD τ) ↦[(pl s t).view.set]{fullShare} f
/-- The border of plane `(s, t)`, zero. -/
def bdP (s t : Fin 2) : sProp 𝕄 :=
  ((c : Thread nD τ).loc cc0_scratch0) ↦[bdSet s t]{fullShare} (fun _ => zeroE : S2x2x66x66x128.Idx → Elt F .f32)
/-- Half `t` of batch `b` at the input. -/
abbrev halfP (b : Fin 16) (t : Fin 2) : sProp 𝕄 := (src b t).view.loc (c : Thread nD τ) ↦[(src b t).view.set]{fullShare} XA
/-- The semaphore of plane `(s, t)` at zero. -/
abbrev cellP (s t : Fin 2) : sProp 𝕄 := semVal ((c : Thread nD τ), SemLoc.dma (csm s t).sem) 0
/-- What a copy of half `t` of batch `b` into plane `(s, t)` leaves over `f`. -/
abbrev landed (s t : Fin 2) (b : Fin 16) (f : Buf (Elt F) ((inn s t).view.loc (c : Thread nD τ))) : Buf (Elt F) ((inn s t).view.loc (c : Thread nD τ)) :=
  (inn s t).view.writes (Elt F) f [⟨Rect.whole S64x64x128, ReadAs.same.apply ((src b t).view.read (Elt F) XA)⟩]
/-- A copy of half `t` of batch `b` into plane `(s, t)` in flight: at its end the interior holds the picture. -/
abbrev flightP (s t : Fin 2) (b : Fin 16) : sProp 𝕄 :=
  Transfers.Flight countersEmb (c : Thread nD τ) (SemLoc.dma (csm s t).sem) () 65536 iprop(innP c s t (padded XA b) ∗ halfP c XA b t)

/-- On the interior, what a copy leaves is the picture. -/
theorem landed_eq (s t : Fin 2) (b : Fin 16) (f : Buf (Elt F) ((inn s t).view.loc (c : Thread nD τ))) :
    (innP c s t (landed c XA s t b f) : sProp 𝕄) = innP c s t (padded XA b) := by
  refine pointsTo_congr fun y hy => ?_
  obtain ⟨x, -, rfl⟩ := Finset.mem_map.mp hy
  have h := congrFun (View.read_writes_whole (inn s t).view f (ReadAs.same.apply ((src b t).view.read (Elt F) XA))) x
  refine Eq.trans ?_ (h.trans ?_)
  · rfl
  · show XA ((src b t).view.emb x) = padded XA b ((inn s t).view.emb x)
    exact (congrArg XA (src_emb b t x)).trans ((padded_inn XA b s t x).symm.trans (congrArg (padded XA b) (inn_emb s t x).symm))

/-- A copy just issued, whatever it lands on. -/
theorem flight_landed (s t : Fin 2) (b : Fin 16) (f : Buf (Elt F) ((inn s t).view.loc (c : Thread nD τ))) :
    (Transfers.Flight countersEmb (c : Thread nD τ) (SemLoc.dma (csm s t).sem) () 65536 iprop(innP c s t (landed c XA s t b f) ∗ halfP c XA b t) : sProp 𝕄)
      ⊢ flightP c XA s t b :=
  Transfers.Flight_mono _ _ (by rw [landed_eq])

/-- On the border, the picture is zero. -/
theorem bdP_eq (s t : Fin 2) (b : Fin 16) :
    bdP (F := F) c s t = (((c : Thread nD τ).loc cc0_scratch0) ↦[bdSet s t]{fullShare} (padded XA b : S2x2x66x66x128.Idx → Elt F .f32) : sProp 𝕄) :=
  pointsTo_congr fun y hy => (padded_border XA b y ((mem_bdSet s t y).mp hy).2).symm

/-- A plane holding the picture is its interior holding it and its border zero. -/
theorem plP_eq (s t : Fin 2) (b : Fin 16) :
    (plP c s t (padded XA b) : sProp 𝕄) ⊣⊢ iprop(innP c s t (padded XA b) ∗ bdP c s t) := by
  rw [bdP_eq c XA s t b]
  exact pointsTo_split_subset (ℓ := (c : Thread nD τ).loc cc0_scratch0) (innSet_subset s t)

/-! ## Slots -/

/-- A slot free: both interiors held at anything, both semaphores at zero. -/
def freeP (s : Fin 2) : sProp 𝕄 := iprop((∃ f, innP c s 0 f) ∗ (∃ f, innP c s 1 f) ∗ cellP c s 0 ∗ cellP c s 1)
/-- A slot filling with batch `b`: both copies in flight. -/
def comingP (s : Fin 2) (b : Fin 16) : sProp 𝕄 := iprop(flightP c XA s 0 b ∗ flightP c XA s 1 b)
/-- A slot's two borders. -/
def bordersP (s : Fin 2) : sProp 𝕄 := iprop(bdP c s 0 ∗ bdP c s 1)
/-- A batch at home in the input: both halves. -/
def batchP (b : Fin 16) : sProp 𝕄 := iprop(halfP c XA b 0 ∗ halfP c XA b 1)
/-- A slot whose first copy has been waited for, the second not yet. -/
def halfwayP (s : Fin 2) (b : Fin 16) : sProp 𝕄 :=
  iprop(innP c s 0 (padded XA b) ∗ cellP c s 0 ∗ halfP c XA b 0 ∗ flightP c XA s 1 b)

theorem sl_cases (k : ℕ) : (Ring.sl 2 k = 0 ∧ Ring.sl 2 (k + 1) = 1) ∨ (Ring.sl 2 k = 1 ∧ Ring.sl 2 (k + 1) = 0) := by
  rcases Nat.mod_two_eq_zero_or_one k with h | h
  · exact Or.inl ⟨Fin.ext h, Fin.ext (show (k + 1) % 2 = 1 by omega)⟩
  · exact Or.inr ⟨Fin.ext h, Fin.ext (show (k + 1) % 2 = 0 by omega)⟩

/-- Two things of the two slots, named by parity. -/
theorem both_slots (P : Fin 2 → sProp 𝕄) (k : ℕ) : iprop(P 0 ∗ P 1) ⊢ iprop(P (Ring.sl 2 k) ∗ P (Ring.sl 2 (k + 1))) := by
  rcases sl_cases k with ⟨h, h'⟩ | ⟨h, h'⟩
  · rw [h, h']
  · rw [h, h']; exact sep_comm.1
theorem both_slots_back (P : Fin 2 → sProp 𝕄) (k : ℕ) : iprop(P (Ring.sl 2 k) ∗ P (Ring.sl 2 (k + 1))) ⊢ iprop(P 0 ∗ P 1) := by
  rcases sl_cases k with ⟨h, h'⟩ | ⟨h, h'⟩
  · rw [h, h']
  · rw [h, h']; exact sep_comm.1

theorem bigSep_slots (Φ : (Fin 2 × Fin 2) × Fin 2 → sProp 𝕄) : bigSep Finset.univ Φ
    = iprop(Φ ((0, 0), 0) ∗ Φ ((0, 1), 0) ∗ Φ ((1, 0), 0) ∗ Φ ((1, 1), 0) ∗ Φ ((0, 0), 1) ∗ Φ ((0, 1), 1) ∗ Φ ((1, 0), 1) ∗ Φ ((1, 1), 1)) :=
  bigSep_univ_eq_bigSepL [((0, 0), 0), ((0, 1), 0), ((1, 0), 0), ((1, 1), 0), ((0, 0), 1), ((0, 1), 1), ((1, 0), 1), ((1, 1), 1)] (by decide) (by decide) Φ

/-- Interiors of a slot at anything. -/
def innsP (s : Fin 2) : sProp 𝕄 := iprop((∃ f, innP c s 0 f) ∗ (∃ f, innP c s 1 f))

/-- The buffer whole, in the form a launch hands it over. -/
theorem bufP_whole (g : Buf (Elt F) (bufM.view.loc (c : Thread nD τ))) :
    (bufP c g : sProp 𝕄) = (((c : Thread nD τ).loc cc0_scratch0) ↦{fullShare} g : sProp 𝕄) := by
  show (_ ↦[bufM.view.set]{fullShare} g : sProp 𝕄) = _
  rw [View.set_whole]

/-- The buffer whole is the four interiors and the four borders. -/
theorem buf_eq (g : Buf (Elt F) ((c : Thread nD τ).loc cc0_scratch0)) :
    (((c : Thread nD τ).loc cc0_scratch0) ↦{fullShare} g : sProp 𝕄)
      = iprop(innP c 0 0 g ∗ innP c 0 1 g ∗ innP c 1 0 g ∗ innP c 1 1 g
          ∗ (((c : Thread nD τ).loc cc0_scratch0) ↦[bdSet 0 0]{fullShare} g) ∗ (((c : Thread nD τ).loc cc0_scratch0) ↦[bdSet 0 1]{fullShare} g)
          ∗ (((c : Thread nD τ).loc cc0_scratch0) ↦[bdSet 1 0]{fullShare} g) ∗ (((c : Thread nD τ).loc cc0_scratch0) ↦[bdSet 1 1]{fullShare} g)) := by
  rw [Ring.pointsTo_blocks (ℓ := (c : Thread nD τ).loc cc0_scratch0) block block_disjoint block_cover, bigSep_slots]
  rfl

/-- With zero borders, those are the kernel's pieces. -/
theorem buf_split (g : Buf (Elt F) (bufM.view.loc (c : Thread nD τ))) (hg : ∀ y : S2x2x66x66x128.Idx, ¬ Inside y → g y = zeroE) :
    (bufP c g : sProp 𝕄) ⊢ iprop((innsP c 0 ∗ innsP c 1) ∗ (bordersP c 0 ∗ bordersP c 1)) := by
  have hb : ∀ s t : Fin 2, (((c : Thread nD τ).loc cc0_scratch0) ↦[bdSet s t]{fullShare} g : sProp 𝕄) = bdP c s t := fun s t =>
    pointsTo_congr fun y hy => hg y ((mem_bdSet s t y).mp hy).2
  rw [bufP_whole, buf_eq, hb, hb, hb, hb]
  unfold innsP bordersP
  iintro ⟨H0, H1, H2, H3, H4, H5, H6, H7⟩
  isplitl [H0 H1 H2 H3]
  · isplitl [H0 H1]
    · isplitl [H0]
      · iexists g; iexact H0
      · iexists g; iexact H1
    · isplitl [H2]
      · iexists g; iexact H2
      · iexists g; iexact H3
  · isplitl [H4 H5]
    · isplitl [H4] <;> iassumption
    · isplitl [H6] <;> iassumption

/-- And back: the pieces, whatever the interiors hold, are the buffer whole. -/
theorem buf_join :
    iprop((innsP c 0 ∗ innsP c 1) ∗ (bordersP c 0 ∗ bordersP c 1))
      ⊢ (iprop(∃ g : Buf (Elt F) ((c : Thread nD τ).loc cc0_scratch0), ((c : Thread nD τ).loc cc0_scratch0) ↦{fullShare} g) : sProp 𝕄) := by
  unfold innsP bordersP bdP
  iintro ⟨⟨⟨⟨%f0, H0⟩, ⟨%f1, H1⟩⟩, ⟨⟨%f2, H2⟩, ⟨%f3, H3⟩⟩⟩, ⟨H4, H5⟩, ⟨H6, H7⟩⟩
  iapply (Ring.pointsTo_blocks_join_exists (ℓ := (c : Thread nD τ).loc cc0_scratch0) block block_disjoint block_cover f0)
  irw [bigSep_slots]
  isplitl [H0]; · iexists f0; iexact H0
  isplitl [H1]; · iexists f1; iexact H1
  isplitl [H2]; · iexists f2; iexact H2
  isplitl [H3]; · iexists f3; iexact H3
  isplitl [H4]; · iexists (fun _ => zeroE : S2x2x66x66x128.Idx → Elt F .f32); iexact H4
  isplitl [H5]; · iexists (fun _ => zeroE : S2x2x66x66x128.Idx → Elt F .f32); iexact H5
  isplitl [H6]; · iexists (fun _ => zeroE : S2x2x66x66x128.Idx → Elt F .f32); iexact H6
  iexists (fun _ => zeroE : S2x2x66x66x128.Idx → Elt F .f32); iexact H7

end Pieces

end Cert.Proof.KI
-- ==== Proof.KernelIdeal.Borders.lean ====
/-
  The first grid point's filling of the borders: sixteen stores of zeros, in three parts of the printed body.
-/
module

public import proofs.«01_k».proof.Proof.KernelIdeal.Pieces

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ
/-- After writes that all put zero, an element that some write covers, or that was zero before, is zero. -/
theorem zero_writes (g : S2x2x66x66x128.Idx → Elt F .f32) (L : List (View.Piece (Elt F) S2x2x66x66x128 .f32))
    (hz : ∀ p ∈ L, ∀ x, p.2 x = zeroE) (y : S2x2x66x66x128.Idx) (hy : (∃ p ∈ L, y ∈ p.1.set) ∨ g y = zeroE) :
    (bufM.view.writes (Elt F) g L : S2x2x66x66x128.Idx → Elt F .f32) y = zeroE := by
  by_cases h : ∃ p ∈ L, y ∈ p.1.set
  · exact View.read_writes_apply_of_pieces bufM.view g (fun _ => zeroE) L hz y h
  · rcases hy with hy | hy
    · exact absurd hy h
    · refine (View.read_writes_apply_of_forall_not_mem bufM.view g y L fun p hp hm => h ⟨p, hp, hm⟩).trans hy

/-- A row of a plane lies in the box that stores it. -/
theorem mem_row (s t r : ℕ) (inb) (y : S2x2x66x66x128.Idx) (hs : (y 0).val = s) (ht : (y 1).val = t) (hr : (y 2).val = r) :
    y ∈ (Rect.unit (s := S2x2x66x66x128) ![s, t, r, 0, 0] S1x1x1x66x128.size inb).set := by
  rw [Rect.mem_set_unit]
  have h3 : (y 3).val < 66 := (y 3).isLt
  have h4 : (y 4).val < 128 := (y 4).isLt
  intro a
  match a with
  | ⟨0, _⟩ => show s ≤ (y 0).val ∧ (y 0).val < s + 1; omega
  | ⟨1, _⟩ => show t ≤ (y 1).val ∧ (y 1).val < t + 1; omega
  | ⟨2, _⟩ => show r ≤ (y 2).val ∧ (y 2).val < r + 1; omega
  | ⟨3, _⟩ => show 0 ≤ (y 3).val ∧ (y 3).val < 0 + 66; omega
  | ⟨4, _⟩ => show 0 ≤ (y 4).val ∧ (y 4).val < 0 + 128; omega

/-- A column of a plane, between its first and last row, lies in the box that stores it. -/
theorem mem_col (s t k : ℕ) (inb) (y : S2x2x66x66x128.Idx) (hs : (y 0).val = s) (ht : (y 1).val = t)
    (hr : 1 ≤ (y 2).val ∧ (y 2).val < 65) (hk : (y 3).val = k) :
    y ∈ (Rect.unit (s := S2x2x66x66x128) ![s, t, 1, k, 0] S1x1x64x1x128.size inb).set := by
  rw [Rect.mem_set_unit]
  have h4 : (y 4).val < 128 := (y 4).isLt
  intro a
  match a with
  | ⟨0, _⟩ => show s ≤ (y 0).val ∧ (y 0).val < s + 1; omega
  | ⟨1, _⟩ => show t ≤ (y 1).val ∧ (y 1).val < t + 1; omega
  | ⟨2, _⟩ => show 1 ≤ (y 2).val ∧ (y 2).val < 1 + 64; omega
  | ⟨3, _⟩ => show k ≤ (y 3).val ∧ (y 3).val < k + 1; omega
  | ⟨4, _⟩ => show 0 ≤ (y 4).val ∧ (y 4).val < 0 + 128; omega

/-- The border is zero on the first `n` planes in order (plane `(s, t)` is number `2 s + t`). -/
def ZeroTo (n : ℕ) (g : S2x2x66x66x128.Idx → Elt F .f32) : Prop :=
  ∀ y : S2x2x66x66x128.Idx, ¬ Inside y → 2 * (y 0).val + (y 1).val < n → g y = zeroE
/-- Row `r` of plane number `n` is zero. -/
def ZeroRow (n r : ℕ) (g : S2x2x66x66x128.Idx → Elt F .f32) : Prop :=
  ∀ y : S2x2x66x66x128.Idx, 2 * (y 0).val + (y 1).val = n → (y 2).val = r → g y = zeroE

/-- An element of plane `(s, t)`'s border off its outer rows lies in one of the two boxes that store its outer columns. -/
theorem mem_border_cols (s t : ℕ) (L : List (View.Piece (Elt F) S2x2x66x66x128 .f32)) (y : S2x2x66x66x128.Idx)
    (hs : (y 0).val = s) (ht : (y 1).val = t) (hy : ¬ Inside y) (r0 : (y 2).val ≠ 0) (r65 : (y 2).val ≠ 65) {j0 j65} {v0 v65}
    (k0 : (⟨Rect.unit (s := S2x2x66x66x128) ![s, t, 1, 0, 0] S1x1x64x1x128.size j0, v0⟩ : View.Piece (Elt F) S2x2x66x66x128 .f32) ∈ L)
    (k65 : (⟨Rect.unit (s := S2x2x66x66x128) ![s, t, 1, 65, 0] S1x1x64x1x128.size j65, v65⟩ : View.Piece (Elt F) S2x2x66x66x128 .f32) ∈ L) :
    ∃ p ∈ L, y ∈ p.1.set := by
  have h2 : (y 2).val < 66 := (y 2).isLt
  have h3 : (y 3).val < 66 := (y 3).isLt
  by_cases d : (y 3).val = 0
  · exact ⟨_, k0, mem_col s t 0 j0 y hs ht ⟨by omega, by omega⟩ d⟩
  · have e : (y 3).val = 65 := by
      by_contra e
      exact hy ⟨⟨by omega, by omega⟩, by omega, by omega⟩
    exact ⟨_, k65, mem_col s t 65 j65 y hs ht ⟨by omega, by omega⟩ e⟩

/-- The same off its first row: the boxes of the last row and the outer columns. -/
theorem mem_border_but (s t : ℕ) (L : List (View.Piece (Elt F) S2x2x66x66x128 .f32)) (y : S2x2x66x66x128.Idx)
    (hs : (y 0).val = s) (ht : (y 1).val = t) (hy : ¬ Inside y) (r0 : (y 2).val ≠ 0) {i65 j0 j65} {w65 v0 v65}
    (h65 : (⟨Rect.unit (s := S2x2x66x66x128) ![s, t, 65, 0, 0] S1x1x1x66x128.size i65, w65⟩ : View.Piece (Elt F) S2x2x66x66x128 .f32) ∈ L)
    (k0 : (⟨Rect.unit (s := S2x2x66x66x128) ![s, t, 1, 0, 0] S1x1x64x1x128.size j0, v0⟩ : View.Piece (Elt F) S2x2x66x66x128 .f32) ∈ L)
    (k65 : (⟨Rect.unit (s := S2x2x66x66x128) ![s, t, 1, 65, 0] S1x1x64x1x128.size j65, v65⟩ : View.Piece (Elt F) S2x2x66x66x128 .f32) ∈ L) :
    ∃ p ∈ L, y ∈ p.1.set := by
  by_cases r65 : (y 2).val = 65
  · exact ⟨_, h65, mem_row s t 65 i65 y hs ht r65⟩
  · exact mem_border_cols s t L y hs ht hy r0 r65 k0 k65

/-- Any element of the border: all four boxes. -/
theorem mem_border (s t : ℕ) (L : List (View.Piece (Elt F) S2x2x66x66x128 .f32)) (y : S2x2x66x66x128.Idx)
    (hs : (y 0).val = s) (ht : (y 1).val = t) (hy : ¬ Inside y) {i0 i65 j0 j65} {w0 w65 v0 v65}
    (h0 : (⟨Rect.unit (s := S2x2x66x66x128) ![s, t, 0, 0, 0] S1x1x1x66x128.size i0, w0⟩ : View.Piece (Elt F) S2x2x66x66x128 .f32) ∈ L)
    (h65 : (⟨Rect.unit (s := S2x2x66x66x128) ![s, t, 65, 0, 0] S1x1x1x66x128.size i65, w65⟩ : View.Piece (Elt F) S2x2x66x66x128 .f32) ∈ L)
    (k0 : (⟨Rect.unit (s := S2x2x66x66x128) ![s, t, 1, 0, 0] S1x1x64x1x128.size j0, v0⟩ : View.Piece (Elt F) S2x2x66x66x128 .f32) ∈ L)
    (k65 : (⟨Rect.unit (s := S2x2x66x66x128) ![s, t, 1, 65, 0] S1x1x64x1x128.size j65, v65⟩ : View.Piece (Elt F) S2x2x66x66x128 .f32) ∈ L) :
    ∃ p ∈ L, y ∈ p.1.set := by
  by_cases r0 : (y 2).val = 0
  · exact ⟨_, h0, mem_row s t 0 i0 y hs ht r0⟩
  · exact mem_border_but s t L y hs ht hy r0 h65 k0 k65

section Runs
variable (c : Dev nD) (i : grid0.Coords)
  (arg2 : Memref sig .tc .vmem S2304x256 .bf16) (harg2 : arg2.IsWhole)
  (arg3 : Memref sig .tc .vmem S1x256 .f32) (harg3 : arg3.IsWhole)
  (arg4 : Memref sig .tc .vmem S1x256x1024 .f32) (harg4 : arg4.IsWhole)

/-- Part 1: the border of plane (0, 0), and row 0 of plane (0, 1). -/
theorem part1_run (f : Buf (Elt F) (bufM.view.loc (c : Thread nD τ))) :
    (bufP c f : sProp 𝕄) ⊢ wp frame (wpE (defs₀ (F := F)) 𝒱₀ (c : Thread nD τ) none) Set.univ
      (k0_part1 (F := F) i xM (Memref.isWhole_whole _) arg2 harg2 arg3 harg3 arg4 harg4 bufM (Memref.isWhole_whole _) catM (Memref.isWhole_whole _) cc0_scratch2)
      (fun r => iprop(∃ g : Buf (Elt F) (bufM.view.loc (c : Thread nD τ)), bufP c g ∗ ⌜r = k0_pay7 (F := F)⌝ ∗ ⌜ZeroTo 1 g⌝ ∗ ⌜ZeroRow 1 0 g⌝)) := by
  iintro H
  sl_unfold [k0_part1]
  sl_exec
  sl_step
  iexists _
  isplitl [H]
  · iexact H
  isplitr
  · ipureintro; rfl
  isplitr
  · ipureintro
    intro y hy hn
    refine zero_writes _ _ ?_ y (Or.inl ?_)
    · simp only [List.forall_mem_cons, List.not_mem_nil, false_imp_iff, implies_true, _root_.and_true]
      exact ⟨fun _ => rfl, fun _ => rfl, fun _ => rfl, fun _ => rfl, fun _ => rfl⟩
    apply mem_border 0 0 _ y (by omega) (by omega) hy
    all_goals repeat (first | exact List.mem_cons_self | apply List.mem_cons_of_mem)
  · ipureintro
    intro y hn hr
    have h1 : (y 1).val < 2 := (y 1).isLt
    refine zero_writes _ _ ?_ y (Or.inl ⟨_, List.mem_cons_self, mem_row 0 1 0 inb_S2x2x66x66x128_S1x1x1x66x128_0_1_0_0_0 y (by omega) (by omega) hr⟩)
    simp only [List.forall_mem_cons, List.not_mem_nil, false_imp_iff, implies_true, _root_.and_true]
    exact ⟨fun _ => rfl, fun _ => rfl, fun _ => rfl, fun _ => rfl, fun _ => rfl⟩

/-- Part 2: the rest of the border of plane (0, 1), and the outer rows of plane (1, 0). -/
theorem part2_run (v : FVec F S1x66x128 .f32) (hv : v = k0_pay7 (F := F)) (f : Buf (Elt F) (bufM.view.loc (c : Thread nD τ)))
    (h1 : ZeroTo 1 f) (hr : ZeroRow 1 0 f) :
    (bufP c f : sProp 𝕄) ⊢ wp frame (wpE (defs₀ (F := F)) 𝒱₀ (c : Thread nD τ) none) Set.univ
      (k0_part2 (F := F) i xM (Memref.isWhole_whole _) arg2 harg2 arg3 harg3 arg4 harg4 bufM (Memref.isWhole_whole _) catM (Memref.isWhole_whole _) cc0_scratch2 v)
      (fun r => iprop(∃ g : Buf (Elt F) (bufM.view.loc (c : Thread nD τ)), bufP c g ∗ ⌜r = k0_pay13 (F := F)⌝ ∗ ⌜ZeroTo 2 g⌝ ∗ ⌜ZeroRow 2 0 g⌝ ∗ ⌜ZeroRow 2 65 g⌝)) := by
  subst hv
  iintro H
  sl_unfold [k0_part2]
  sl_exec
  sl_step
  iexists _
  isplitl [H]
  · iexact H
  isplitr
  · ipureintro; rfl
  isplitr
  · ipureintro
    intro y hy hn
    have b1 : (y 1).val < 2 := (y 1).isLt
    refine zero_writes _ _ ?_ y ?_
    · simp only [List.forall_mem_cons, List.not_mem_nil, false_imp_iff, implies_true, _root_.and_true]
      exact ⟨fun _ => rfl, fun _ => rfl, fun _ => rfl, fun _ => rfl, fun _ => rfl⟩
    by_cases hp : 2 * (y 0).val + (y 1).val < 1
    · exact Or.inr (h1 y hy hp)
    by_cases h0 : (y 2).val = 0
    · exact Or.inr (hr y (by omega) h0)
    have e0 : (y 0).val = 0 := by omega
    have e1 : (y 1).val = 1 := by omega
    refine Or.inl ?_
    apply mem_border_but 0 1 _ y e0 e1 hy h0
    all_goals repeat (first | exact List.mem_cons_self | apply List.mem_cons_of_mem)
  isplitr
  · ipureintro
    intro y hn hrow
    have b1 : (y 1).val < 2 := (y 1).isLt
    refine zero_writes _ _ ?_ y (Or.inl ⟨_, List.mem_cons_of_mem _ List.mem_cons_self, mem_row 1 0 0 inb_S2x2x66x66x128_S1x1x1x66x128_1_0_0_0_0 y (by omega) (by omega) hrow⟩)
    simp only [List.forall_mem_cons, List.not_mem_nil, false_imp_iff, implies_true, _root_.and_true]
    exact ⟨fun _ => rfl, fun _ => rfl, fun _ => rfl, fun _ => rfl, fun _ => rfl⟩
  · ipureintro
    intro y hn hrow
    have b1 : (y 1).val < 2 := (y 1).isLt
    refine zero_writes _ _ ?_ y (Or.inl ⟨_, List.mem_cons_self, mem_row 1 0 65 inb_S2x2x66x66x128_S1x1x1x66x128_1_0_65_0_0 y (by omega) (by omega) hrow⟩)
    simp only [List.forall_mem_cons, List.not_mem_nil, false_imp_iff, implies_true, _root_.and_true]
    exact ⟨fun _ => rfl, fun _ => rfl, fun _ => rfl, fun _ => rfl, fun _ => rfl⟩

/-- Part 3: the columns of plane (1, 0) and the border of plane (1, 1), after which the buffer comes apart in its pieces. -/
theorem part3_run (h : k0_cond1 i = 1#1) (v : FVec F S1x1x64x1x128 .f32) (hv : v = k0_pay13 (F := F)) (f : Buf (Elt F) (bufM.view.loc (c : Thread nD τ)))
    (h2 : ZeroTo 2 f) (hr : ZeroRow 2 0 f) (hr' : ZeroRow 2 65 f) :
    (bufP c f : sProp 𝕄) ⊢ wp frame (wpE (defs₀ (F := F)) 𝒱₀ (c : Thread nD τ) none) Set.univ
      (k0_part3 (F := F) i xM (Memref.isWhole_whole _) arg2 harg2 arg3 harg3 arg4 harg4 bufM (Memref.isWhole_whole _) catM (Memref.isWhole_whole _) cc0_scratch2 h v)
      (fun r => iprop((innsP c (Ring.sl 2 (pt i)) ∗ innsP c (Ring.sl 2 (pt i + 1))) ∗ (bordersP c (Ring.sl 2 (pt i)) ∗ bordersP c (Ring.sl 2 (pt i + 1))))) := by
  subst hv
  iintro H
  sl_unfold [k0_part3]
  sl_exec
  sl_step
  refine (buf_split c _ ?_).trans ((BI.sep_mono (both_slots (innsP c) (pt i)) (both_slots (bordersP c) (pt i))))
  · intro y hy
    have hn : 2 * (y 0).val + (y 1).val < 4 := by
      have b0 : (y 0).val < 2 := (y 0).isLt
      have b1 : (y 1).val < 2 := (y 1).isLt
      omega
    have b0 : (y 0).val < 2 := (y 0).isLt
    have b1 : (y 1).val < 2 := (y 1).isLt
    have b2 : (y 2).val < 66 := (y 2).isLt
    have b3 : (y 3).val < 66 := (y 3).isLt
    refine zero_writes _ _ ?_ y ?_
    · simp only [List.forall_mem_cons, List.not_mem_nil, false_imp_iff, implies_true, _root_.and_true]
      exact ⟨fun _ => rfl, fun _ => rfl, fun _ => rfl, fun _ => rfl, fun _ => rfl, fun _ => rfl⟩
    by_cases hp : 2 * (y 0).val + (y 1).val < 2
    · exact Or.inr (h2 y hy hp)
    by_cases hq : (y 1).val = 1
    · refine Or.inl ?_
      apply mem_border 1 1 _ y (by omega) hq hy
      all_goals repeat (first | exact List.mem_cons_self | apply List.mem_cons_of_mem)
    by_cases r0 : (y 2).val = 0
    · exact Or.inr (hr y (by omega) r0)
    by_cases r65 : (y 2).val = 65
    · exact Or.inr (hr' y (by omega) r65)
    refine Or.inl ?_
    apply mem_border_cols 1 0 _ y (by omega) (by omega) hy r0 r65
    all_goals repeat (first | exact List.mem_cons_self | apply List.mem_cons_of_mem)

end Runs

end Cert.Proof.KI
-- ==== Proof.KernelIdeal.Stage.lean ====
/-
  The copies: what each grid point issues and waits for (the printed body's part 4).
-/
module

public import proofs.«01_k».proof.Proof.KernelIdeal.Borders

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ
section Stage
variable (c : Dev nD) (XA : Buf (Elt F) (xM.view.loc (c : Thread nD τ))) (i : grid0.Coords)
  (arg2 : Memref sig .tc .vmem S2304x256 .bf16) (harg2 : arg2.IsWhole)
  (arg3 : Memref sig .tc .vmem S1x256 .f32) (harg3 : arg3.IsWhole)
  (arg4 : Memref sig .tc .vmem S1x256x1024 .f32) (harg4 : arg4.IsWhole)

/-- The slot whose picture the point reads; -/
abbrev cur : Fin 2 := Ring.sl 2 (pt i)
/-- the slot it fills for the next point. -/
abbrev nxt : Fin 2 := Ring.sl 2 (pt i + 1)
/-- The point's batch, -/
abbrev bcur : Fin 16 := Ring.bk 16 (pt i)
/-- and the next one. -/
abbrev bnxt : Fin 16 := Ring.bk 16 (pt i + 1)

/-- What is under way for the next point while this one computes: the next batch filling the other slot, or, at the
    last point, nothing. -/
@[irreducible] def underwayP : sProp 𝕄 := if pt i + 1 < 16 then comingP c XA (nxt i) (bnxt i) else freeP c (nxt i)
/-- That, and the other slot's borders. -/
def nextP : sProp 𝕄 := iprop(bordersP c (nxt i) ∗ underwayP c XA i)

/-- Before a point past the first and short of the last. -/
def midP : sProp 𝕄 :=
  iprop(comingP c XA (cur i) (bcur i) ∗ bordersP c (cur i) ∗ bordersP c (nxt i) ∗ freeP c (nxt i) ∗ batchP c XA (bnxt i) ∗ ∃ W, owes (c : Thread nD τ) 0 W)
/-- Before the last point. -/
def lastP : sProp 𝕄 :=
  iprop(comingP c XA (cur i) (bcur i) ∗ bordersP c (cur i) ∗ bordersP c (nxt i) ∗ freeP c (nxt i) ∗ ∃ W, owes (c : Thread nD τ) 0 W)
/-- Before the first point. -/
def firstP : sProp 𝕄 :=
  iprop((∃ f, bufP c f) ∗ cellP c (cur i) 0 ∗ cellP c (cur i) 1 ∗ cellP c (nxt i) 0 ∗ cellP c (nxt i) 1
    ∗ batchP c XA (bcur i) ∗ batchP c XA (bnxt i) ∗ ∃ W, owes (c : Thread nD τ) 0 W)
/-- After part 4 of any point. -/
def pastP : sProp 𝕄 :=
  iprop(halfwayP c XA (cur i) (bcur i) ∗ bordersP c (cur i) ∗ nextP c XA i ∗ ∃ W, owes (c : Thread nD τ) 0 W)

theorem stage_mid (h0 : ¬ pt i = 0) (h1 : pt i + 1 < 16) :
    (midP c XA i : sProp 𝕄) ⊢ wp frame (wpE (defs₀ (F := F)) 𝒱₀ (c : Thread nD τ) none) Set.univ
      (k0_part4 (F := F) i xM (Memref.isWhole_whole _) arg2 harg2 arg3 harg3 arg4 harg4 bufM (Memref.isWhole_whole _) catM (Memref.isWhole_whole _) cc0_scratch2)
      (fun r => pastP c XA i) := by
  unfold midP comingP freeP batchP pastP
  iintro ⟨⟨F0, F1⟩, B, B', ⟨⟨%f0, I0⟩, ⟨%f1, I1⟩, C0, C1⟩, ⟨S0, S1⟩, ⟨%W, HW⟩⟩
  have n1 : ¬ k0_cond1 i = 1#1 := fun h => h0 ((cond1_iff i).mp h)
  have n2 : k0_cond2 i = 1#1 := (cond2_iff i).mpr h1
  sl_unfold [k0_part4]
  sl_exec
  sl_step
  unfold halfwayP
  isplitl [F0_dst F0 F0_src F1]
  · isplitl [F0_dst]; · iexact F0_dst
    isplitl [F0]; · iexact F0
    isplitl [F0_src]; · iexact F0_src
    iexact F1
  isplitl [B]; · iexact B
  isplitl [B' C0 C1]
  · unfold nextP underwayP
    rw [if_pos h1]
    isplitl [B']; · iexact B'
    unfold comingP
    isplitl [C0]
    · istop; exact (flight_landed c XA (nxt i) 0 (bnxt i) f0)
    · istop; exact (flight_landed c XA (nxt i) 1 (bnxt i) f1)
  iexists _; iexact HW

theorem stage_last (h0 : ¬ pt i = 0) (h1 : ¬ pt i + 1 < 16) :
    (lastP c XA i : sProp 𝕄) ⊢ wp frame (wpE (defs₀ (F := F)) 𝒱₀ (c : Thread nD τ) none) Set.univ
      (k0_part4 (F := F) i xM (Memref.isWhole_whole _) arg2 harg2 arg3 harg3 arg4 harg4 bufM (Memref.isWhole_whole _) catM (Memref.isWhole_whole _) cc0_scratch2)
      (fun r => pastP c XA i) := by
  unfold lastP comingP pastP
  iintro ⟨⟨F0, F1⟩, B, B', HF, ⟨%W, HW⟩⟩
  have n1 : ¬ k0_cond1 i = 1#1 := fun h => h0 ((cond1_iff i).mp h)
  have n2 : ¬ k0_cond2 i = 1#1 := fun h => h1 ((cond2_iff i).mp h)
  sl_unfold [k0_part4]
  sl_exec
  sl_step
  unfold halfwayP
  isplitl [F0_dst F0 F0_src F1]
  · isplitl [F0_dst]; · iexact F0_dst
    isplitl [F0]; · iexact F0
    isplitl [F0_src]; · iexact F0_src
    iexact F1
  isplitl [B]; · iexact B
  isplitl [B' HF]
  · unfold nextP underwayP
    rw [if_neg h1]
    isplitl [B']; · iexact B'
    iexact HF
  iexists _; iexact HW

theorem stage_first (h0 : pt i = 0) :
    (firstP c XA i : sProp 𝕄) ⊢ wp frame (wpE (defs₀ (F := F)) 𝒱₀ (c : Thread nD τ) none) Set.univ
      (k0_part4 (F := F) i xM (Memref.isWhole_whole _) arg2 harg2 arg3 harg3 arg4 harg4 bufM (Memref.isWhole_whole _) catM (Memref.isWhole_whole _) cc0_scratch2)
      (fun r => pastP c XA i) := by
  unfold firstP batchP pastP
  iintro ⟨⟨%f, HB⟩, F0, F1, C0, C1, ⟨T0, T1⟩, ⟨S0, S1⟩, ⟨%W, HW⟩⟩
  have h1 : pt i + 1 < 16 := by omega
  have n1 : k0_cond1 i = 1#1 := (cond1_iff i).mpr h0
  have n2 : k0_cond2 i = 1#1 := (cond2_iff i).mpr h1
  have hcut1 := part1_run (F := F) c i arg2 harg2 arg3 harg3 arg4 harg4
  have hcut2 := part2_run (F := F) c i arg2 harg2 arg3 harg3 arg4 harg4
  have hcut3 := part3_run (F := F) c i arg2 harg2 arg3 harg3 arg4 harg4
  sl_unfold [k0_part4]
  sl_exec
  sl_step
  icases F1 with F1
  isplitl [Hk0_part3_0 F0 T0 F1]
  · unfold halfwayP
    isplitl [Hk0_part3_0]
    · istop; rw [← landed_eq c XA (cur i) 0 (bcur i) fk0_part3_0]; exact .rfl
    isplitl [F0]; · iexact F0
    isplitl [T0]; · iexact T0
    istop; exact (flight_landed c XA (cur i) 1 (bcur i) fk0_part3_1)
  isplitl [Hk0_part3_4 Hk0_part3_5]
  · unfold bordersP bdP
    isplitl [Hk0_part3_4]; · iexact Hk0_part3_4
    iexact Hk0_part3_5
  isplitl [Hk0_part3_6 Hk0_part3_7 C0 C1]
  · unfold nextP underwayP
    rw [if_pos h1]
    isplitl [Hk0_part3_6 Hk0_part3_7]
    · unfold bordersP bdP
      isplitl [Hk0_part3_6]; · iexact Hk0_part3_6
      iexact Hk0_part3_7
    unfold comingP
    isplitl [C0]
    · istop; exact (flight_landed c XA (nxt i) 0 (bnxt i) fk0_part3_2)
    · istop; exact (flight_landed c XA (nxt i) 1 (bnxt i) fk0_part3_3)
  iexists _; iexact HW

end Stage

end Cert.Proof.KI
-- ==== Proof.KernelIdeal.Patch.lean ====
/-
  The patch matrix: what the 72 stores of a grid point leave, as one function of the picture with its zero border.
-/
module

public import proofs.«01_k».proof.Proof.KernelIdeal.Stage
public import Idealize.ShloMosaic.Lib.Pointwise

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ
/-- Row `y 0` of the patch matrix is group `g = y 0 / 256` (the residues `(g / 2, g % 2)` of an output pixel modulo 2) at
    pixel `(y 0 % 256 / 16, y 0 % 16)` of the group; column `y 1` is tap `y 1 / 256` of the 3×3 window, channel half
    `y 1 % 256 / 128`, lane `y 1 % 128`. The element of the picture read there. -/
def patchIx (y : S1024x2304.Idx) : S2x2x66x66x128.Idx :=
  ValueIdx.ix5 (0 : Fin 2)
    (⟨(y 1).val % 256 / 128, by omega⟩ : Fin 2)
    (⟨2 * ((y 0).val / 256 / 2) + (y 1).val / 256 / 3 + 4 * ((y 0).val % 256 / 16), by
      have h0 : (y 0).val < 1024 := (y 0).isLt
      have h1 : (y 1).val < 2304 := (y 1).isLt
      omega⟩ : Fin 66)
    (⟨2 * ((y 0).val / 256 % 2) + (y 1).val / 256 % 3 + 4 * ((y 0).val % 16), by
      have h0 : (y 0).val < 1024 := (y 0).isLt
      have h1 : (y 1).val < 2304 := (y 1).isLt
      omega⟩ : Fin 66)
    (⟨(y 1).val % 128, by omega⟩ : Fin 128)

/-- The patch matrix of batch `b`. -/
def patches (XA : S16x64x64x256.Idx → Elt F .f32) (b : Fin 16) : FVec F S1024x2304 .bf16 :=
  truncf .bf16 (fun y => padded XA b (patchIx y)) bitsLt_bf16_f32

/-- The pixel `(x 0 / 16, x 0 % 16)` and lane `x 1` of a block, as a strided load of a plane yields it. -/
def blkIx (x : S256x128.Idx) : S16x16x128.Idx :=
  ValueIdx.ix3 (⟨(x 0).val / 16, by have h : (x 0).val < 256 := (x 0).isLt; omega⟩ : Fin 16) (⟨(x 0).val % 16, by omega⟩ : Fin 16) (x 1)

theorem blk_cast (v : Vec F S16x16x128 .f32) (x : S256x128.Idx) :
    shapeCast S256x128 v shapeCasts_S16x16x128_S256x128 x = v (blkIx x) := by
  refine shapeCast_apply v _ x (blkIx x) ?_
  refine (rowMajor_val3 (blkIx x) 2048 128 rfl rfl).trans (Eq.trans ?_ (rowMajor_val2 x 128 rfl).symm)
  show (x 0).val / 16 * 2048 + (x 0).val % 16 * 128 + (x 1).val = _
  omega

/-- One store: the block at rows `r`, columns `q`, loaded from plane `t` at offset `(a, e)`, is the patch matrix there. -/
theorem piece_eq (XA : S16x64x64x256.Idx → Elt F .f32) (b : Fin 16) (s t : Fin 2) (a e r q : ℕ)
    (inb : ∀ k : Fin 3, S16x16x128.size k = 0 ∨ (![a, e, 0] : Fin 3 → ℕ) k + (![4, 4, 1] : Fin 3 → ℕ) k * (S16x16x128.size k - 1) < S66x66x128.size k)
    (inb' : ∀ k : Fin 2, (![r, q] : Fin 2 → ℕ) k + S256x128.size k ≤ S1024x2304.size k)
    (h : r % 256 = 0 ∧ q % 128 = 0 ∧ q % 256 / 128 = t.val ∧ 2 * (r / 256 / 2) + q / 256 / 3 = a ∧ 2 * (r / 256 % 2) + q / 256 % 3 = e)
    (x : S256x128.Idx) :
    k0_pay19 ((pl s t).view.readAt (Elt F) (⟨![a, e, 0], S16x16x128.size, ![4, 4, 1], inb⟩ : LoadRect S66x66x128) (padded XA b)) x
      = patches XA b ((Rect.unit (s := S1024x2304) ![r, q] S256x128.size inb').emb x) := by
  unfold k0_pay19
  refine (congrFun (shapeCast_id _ _) x).trans ?_
  unfold patches
  refine congrArg (FloatOps.truncf .bf16 bitsLt_bf16_f32) ?_
  refine (blk_cast _ x).trans ?_
  have hx0 : (x 0).val < 256 := (x 0).isLt
  have hx1 : (x 1).val < 128 := (x 1).isLt
  obtain ⟨h1, h2, h3, h4, h5⟩ := h
  have hr : r + 256 ≤ 1024 := inb' 0
  have hq : q + 128 ≤ 2304 := inb' 1
  show padded XA b ((pl s t).view.emb ((⟨![a, e, 0], S16x16x128.size, ![4, 4, 1], inb⟩ : LoadRect S66x66x128).idx (blkIx x))) = _
  refine (congrArg (padded XA b) (pl_emb s t _)).trans ?_
  show padded XA b (plIx 0 t _) = padded XA b _
  refine congrArg (padded XA b) ?_
  funext k; apply Fin.ext
  match k with
  | ⟨0, _⟩ => rfl
  | ⟨1, _⟩ => show t.val = (q + 1 * (x 1).val) % 256 / 128; omega
  | ⟨2, _⟩ => show a + 4 * ((x 0).val / 16) = 2 * ((r + 1 * (x 0).val) / 256 / 2) + (q + 1 * (x 1).val) / 256 / 3 + 4 * ((r + 1 * (x 0).val) % 256 / 16); omega
  | ⟨3, _⟩ => show e + 4 * ((x 0).val % 16) = 2 * ((r + 1 * (x 0).val) / 256 % 2) + (q + 1 * (x 1).val) / 256 % 3 + 4 * ((r + 1 * (x 0).val) % 16); omega
  | ⟨4, _⟩ => show 0 + 1 * (x 1).val = (q + 1 * (x 1).val) % 128; omega

/-- Stores that tile the matrix, each the patch matrix on its block, leave the patch matrix. -/
theorem patches_of_pieces (XA : S16x64x64x256.Idx → Elt F .f32) (b : Fin 16) (L : List (View.Piece (Elt F) S1024x2304 .bf16))
    (hL : ∀ p ∈ L, ∀ x : p.1.shape.Idx, p.2 x = patches XA b (p.1.emb x))
    (hc : ∀ y : S1024x2304.Idx, ∃ p ∈ L, y ∈ p.1.set) :
    catM.view.readCov L (Rect.unit (s := S1024x2304) ![0, 0] S1024x2304.size inb_S1024x2304_S1024x2304_0_0).toLoadRect = patches XA b := by
  funext y
  have e : (Rect.unit (s := S1024x2304) ![0, 0] S1024x2304.size inb_S1024x2304_S1024x2304_0_0).toLoadRect.idx y = y := by
    funext k; apply Fin.ext
    match k with
    | ⟨0, _⟩ => show 0 + 1 * (y 0).val = (y 0).val; omega
    | ⟨1, _⟩ => show 0 + 1 * (y 1).val = (y 1).val; omega
  unfold View.readCov
  rw [View.readAt_apply, e]
  exact View.read_writes_apply_of_pieces catM.view _ (patches XA b) L hL y (hc y)

/-! ## Whole loads and stores -/

theorem unit_emb_zero {s : Shape} (off : Fin s.rank → ℕ) (h : ∀ a, off a = 0) (inb : ∀ a, off a + s.size a ≤ s.size a) (y : s.Idx) :
    (Rect.unit (s := s) off s.size inb).emb y = y := by
  funext a; apply Fin.ext
  show off a + 1 * (y a).val = (y a).val
  rw [h a]; omega

/-- A load of everything is what the view reads. -/
theorem load_all {sp : Space} {s : Shape} {e : EltTy} (v : View sig .tc sp s e) (off : Fin s.rank → ℕ) (h : ∀ a, off a = 0)
    (inb : ∀ a, off a + s.size a ≤ s.size a) (f : v.ty.Contents (Elt F)) :
    v.readAt (Elt F) (Rect.unit (s := s) off s.size inb).toLoadRect f = v.read (Elt F) f :=
  funext fun y => congrArg (v.read (Elt F) f) (unit_emb_zero off h inb y)

/-- After a store of everything the view reads what was stored. -/
theorem store_all {sp : Space} {s : Shape} {e : EltTy} (v : View sig .tc sp s e) (off : Fin s.rank → ℕ) (h : ∀ a, off a = 0)
    (inb : ∀ a, off a + s.size a ≤ s.size a) (f : v.ty.Contents (Elt F)) (w : s.Idx → Elt F e) :
    v.read (Elt F) (v.writes (Elt F) f [⟨Rect.unit (s := s) off s.size inb, w⟩]) = w :=
  funext fun y => View.read_writes_apply_of_pieces v f w _
    (fun p hp x => by obtain rfl := List.mem_singleton.mp hp; exact congrArg w (unit_emb_zero off h inb x).symm) y
    ⟨_, List.mem_singleton_self _, (Rect.mem_set_unit (inb := inb)).mpr fun a => ⟨by rw [h a]; exact Nat.zero_le _, by rw [h a, Nat.zero_add]; exact (y a).isLt⟩⟩

/-- What a grid point stores: the patch matrix times the weights, plus the bias, transposed. -/
def outV (XA : S16x64x64x256.Idx → Elt F .f32) (b : Fin 16) (w : Vec F S2304x256 .bf16) (β : Vec F S1x256 .f32) : FVec F S1x256x1024 .f32 :=
  k0_pay1 (k0_pay98 (patches XA b) w) (k0_pay99 β)

end Cert.Proof.KI
-- ==== Proof.KernelIdeal.Body.lean ====
/-
  The whole body of a grid point: the patch matrix gathered from the two planes, the product with the weights, the bias
  and the transpose stored.
-/
module

public import proofs.«01_k».proof.Proof.KernelIdeal.Patch

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ
section Body
variable (c : Dev nD) (XA : Buf (Elt F) (xM.view.loc (c : Thread nD τ))) (i : grid0.Coords)
  (arg2 : Memref sig .tc .vmem S2304x256 .bf16) (harg2 : arg2.IsWhole)
  (arg3 : Memref sig .tc .vmem S1x256 .f32) (harg3 : arg3.IsWhole)
  (arg4 : Memref sig .tc .vmem S1x256x1024 .f32) (harg4 : arg4.IsWhole)

/-- After the point: the slot free again, the batch at home, the next batch under way, the block stored. -/
def doneP (g2 : Buf (Elt F) (arg2.view.loc (c : Thread nD τ))) (g3 : Buf (Elt F) (arg3.view.loc (c : Thread nD τ))) : sProp 𝕄 :=
  iprop(freeP c (cur i) ∗ bordersP c (cur i) ∗ batchP c XA (bcur i) ∗ nextP c XA i ∗ (∃ W, owes (c : Thread nD τ) 0 W)
    ∗ (∃ g6, catM.view.loc (c : Thread nD τ) ↦[catM.view.set]{fullShare} g6)
    ∗ (arg2.view.loc (c : Thread nD τ) ↦[arg2.view.set]{fullShare} g2)
    ∗ (arg3.view.loc (c : Thread nD τ) ↦[arg3.view.set]{fullShare} g3)
    ∗ ∃ g4, (arg4.view.loc (c : Thread nD τ) ↦[arg4.view.set]{fullShare} g4)
        ∗ ⌜arg4.view.read (Elt F) g4 = outV XA (bcur i) (arg2.view.read (Elt F) g2) (arg3.view.read (Elt F) g3)⌝)

theorem body_run (R : sProp 𝕄)
    (hcut : R ⊢ wp frame (wpE (defs₀ (F := F)) 𝒱₀ (c : Thread nD τ) none) Set.univ
      (k0_part4 (F := F) i xM (Memref.isWhole_whole _) arg2 harg2 arg3 harg3 arg4 harg4 bufM (Memref.isWhole_whole _) catM (Memref.isWhole_whole _) cc0_scratch2)
      (fun r => pastP c XA i))
    (g2 g3 g4 g6) (Q : PUnit → sProp 𝕄) :
    iprop(R ∗ (catM.view.loc (c : Thread nD τ) ↦[catM.view.set]{fullShare} g6)
      ∗ (arg2.view.loc (c : Thread nD τ) ↦[arg2.view.set]{fullShare} g2)
      ∗ (arg3.view.loc (c : Thread nD τ) ↦[arg3.view.set]{fullShare} g3)
      ∗ (arg4.view.loc (c : Thread nD τ) ↦[arg4.view.set]{fullShare} g4)
      ∗ (doneP c XA i arg2 arg3 arg4 g2 g3 -∗ Q ⟨⟩))
      ⊢ wp frame (wpE (defs₀ (F := F)) 𝒱₀ (c : Thread nD τ) none) Set.univ
      (cc0_conv2d_orion (F := F) i xM (Memref.isWhole_whole _) arg2 harg2 arg3 harg3 arg4 harg4 bufM (Memref.isWhole_whole _) catM (Memref.isWhole_whole _) cc0_scratch2)
      Q := by
  iintro ⟨HR, H6, H2, H3, H4, Hk⟩
  sl_unfold [cc0_conv2d_orion]
  sl_exec
  ihave P0 := ((plP_eq c XA (cur i) 0 (bcur i)).2) $$ [Hk0_part4_0 Hk0_part4_4]
  · unfold bdP; isplitl [Hk0_part4_0]; · iexact Hk0_part4_0
    iexact Hk0_part4_4
  ihave P1 := ((plP_eq c XA (cur i) 1 (bcur i)).2) $$ [Hk0_part4_3_dst Hk0_part4_5]
  · unfold bdP; isplitl [Hk0_part4_3_dst]; · iexact Hk0_part4_3_dst
    iexact Hk0_part4_5
  sl_exec
  sl_step
  have hG : body_run.sl.v602 c XA i = patches XA (bcur i) := by
    unfold body_run.sl.v602
    refine patches_of_pieces XA (bcur i) _ ?_ (View.cover_of_tiled _ ![256, 128] (by rfl))
    unfold body_run.sl.H6_72
    repeat (refine List.forall_mem_cons.mpr ⟨fun x => ?_, ?_⟩; · exact piece_eq XA (bcur i) _ _ _ _ _ _ _ (by decide) (by decide) x)
    exact fun p hp => absurd hp List.not_mem_nil
  have hO : arg4.view.read (Elt F) (arg4.view.writes (Elt F) g4 [⟨Rect.unit ![0, 0, 0] S1x256x1024.size inb_S1x256x1024_S1x256x1024_0_0_0,
      k0_pay1 (body_run.sl.r_7 c XA i arg2 g2) (body_run.sl.r_8 c arg3 g3)⟩])
        = outV XA (bcur i) (arg2.view.read (Elt F) g2) (arg3.view.read (Elt F) g3) := by
    refine (store_all arg4.view ![0, 0, 0] (by decide) inb_S1x256x1024_S1x256x1024_0_0_0 g4 _).trans ?_
    unfold body_run.sl.r_7 body_run.sl.r_8 outV
    rw [hG, load_all arg2.view ![0, 0] (by decide), load_all arg3.view ![0, 0] (by decide)]
  ihave X0 := ((plP_eq c XA (cur i) 0 (bcur i)).1) $$ P0
  ihave X1 := ((plP_eq c XA (cur i) 1 (bcur i)).1) $$ P1
  icases X0 with ⟨I0, B0⟩
  icases X1 with ⟨I1, B1⟩
  iapply Hk
  unfold doneP freeP bordersP batchP nextP bordersP
  isplitl [I0 I1 Hk0_part4_1 Hk0_part4_3]
  · isplitl [I0]; · iexists _; iexact I0
    isplitl [I1]; · iexists _; iexact I1
    isplitl [Hk0_part4_1]; · iexact Hk0_part4_1
    iexact Hk0_part4_3
  isplitl [B0 B1]
  · isplitl [B0]; · iexact B0
    iexact B1
  isplitl [Hk0_part4_2 Hk0_part4_3_src]
  · isplitl [Hk0_part4_2]; · iexact Hk0_part4_2
    iexact Hk0_part4_3_src
  isplitl [Hk0_part4_6 Hk0_part4_7 Hk0_part4_8]
  · isplitl [Hk0_part4_6 Hk0_part4_7]
    · unfold bdP
      isplitl [Hk0_part4_6]; · iexact Hk0_part4_6
      iexact Hk0_part4_7
    iexact Hk0_part4_8
  isplitl [Hk0_part4_9]; · iexists _; iexact Hk0_part4_9
  isplitl [H6]; · iexists _; iexact H6
  isplitl [H2]; · iexact H2
  isplitl [H3]; · iexact H3
  iexists _
  isplitl [H4]; · iexact H4
  ipureintro
  exact hO

end Body

end Cert.Proof.KI
-- ==== Proof.KernelIdeal.Inv.lean ====
/-
  What holds between the grid points, and a whole point from one to the next.
-/
module

public import proofs.«01_k».proof.Proof.KernelIdeal.Body

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

section Inv
variable (c : Dev nD) (XA : Buf (Elt F) (xM.view.loc (c : Thread nD τ))) (i : grid0.Coords)

/-- Every batch of the input at home; -/
def allP : sProp 𝕄 := bigSep Finset.univ (batchP c XA)
/-- every batch but `a`. -/
def homesP (a : Fin 16) : sProp 𝕄 := bigSep (Finset.univ.erase a) (batchP c XA)
/-- The batches at home before point `p`: all but the point's own, which is under way. -/
@[irreducible] def restP (p : ℕ) : sProp 𝕄 := if p < 16 then homesP c XA (Ring.bk 16 p) else allP c XA

theorem allP_split (a : Fin 16) : (allP c XA : sProp 𝕄) = iprop(batchP c XA a ∗ homesP c XA a) := bigSep_univ_split a

/-- One batch leaves, another comes back. -/
theorem homes_swap {a b : Fin 16} (h : a ≠ b) : (homesP c XA a : sProp 𝕄) ⊢ iprop(batchP c XA b ∗ (batchP c XA a -∗ homesP c XA b)) := by
  have hb : b ∈ Finset.univ.erase a := Finset.mem_erase.mpr ⟨h.symm, Finset.mem_univ _⟩
  have ha : a ∈ Finset.univ.erase b := Finset.mem_erase.mpr ⟨h, Finset.mem_univ _⟩
  have ea : (homesP c XA a : sProp 𝕄) = iprop(batchP c XA b ∗ bigSep ((Finset.univ.erase a).erase b) (batchP c XA)) := bigSep_erase hb
  have eb : (homesP c XA b : sProp 𝕄) = iprop(batchP c XA a ∗ bigSep ((Finset.univ.erase b).erase a) (batchP c XA)) := bigSep_erase ha
  rw [ea, eb, Finset.erase_right_comm]
  iintro ⟨H, HR⟩
  isplitl [H]; · iexact H
  iintro H
  isplitl [H]; · iexact H
  iexact HR

/-- Before the first point: the buffer at anything, the semaphores at zero, the input at home. -/
def startP : sProp 𝕄 :=
  iprop((∃ f, bufP c f) ∗ (cellP c 0 0 ∗ cellP c 0 1) ∗ (cellP c 1 0 ∗ cellP c 1 1) ∗ allP c XA)
/-- Before point `p`, `0 < p < 16`: its slot filling, the other free. -/
def amidP (p : ℕ) : sProp 𝕄 :=
  iprop(comingP c XA (Ring.sl 2 p) (Ring.bk 16 p) ∗ bordersP c (Ring.sl 2 p) ∗ bordersP c (Ring.sl 2 (p + 1)) ∗ freeP c (Ring.sl 2 (p + 1)) ∗ restP c XA p)
/-- After the last point: both slots free, the input at home. -/
def overP : sProp 𝕄 := iprop((freeP c 0 ∗ freeP c 1) ∗ (bordersP c 0 ∗ bordersP c 1) ∗ allP c XA)

/-- What holds before point `p` (after the last one at `p = 16`). -/
@[irreducible] def invP (p : ℕ) : sProp 𝕄 := if p = 0 then startP c XA else if p < 16 then amidP c XA p else overP c XA

theorem invP_zero : (invP c XA 0 : sProp 𝕄) = startP c XA := by unfold invP; rw [if_pos rfl]
theorem invP_mid {p : ℕ} (h0 : ¬ p = 0) (h1 : p < 16) : (invP c XA p : sProp 𝕄) = amidP c XA p := by unfold invP; rw [if_neg h0, if_pos h1]
theorem invP_end : (invP c XA 16 : sProp 𝕄) = overP c XA := by unfold invP; rw [if_neg (by omega), if_neg (by omega)]

/-- The batches once the point's own comes back. -/
def backP : sProp 𝕄 := iprop(batchP c XA (bcur i) -∗ restP c XA (pt i + 1))

theorem bk_ne (h1 : pt i + 1 < 16) : bcur i ≠ bnxt i := fun h => by
  have e := congrArg Fin.val h
  rw [show (bcur i).val = pt i from Ring.bk_val (by omega), show (bnxt i).val = pt i + 1 from Ring.bk_val h1] at e
  omega

theorem rest_swap (h1 : pt i + 1 < 16) : (restP c XA (pt i) : sProp 𝕄) ⊢ iprop(batchP c XA (bnxt i) ∗ backP c XA i) := by
  unfold backP restP
  rw [if_pos (by omega), if_pos h1]
  exact homes_swap c XA (bk_ne i h1)

theorem rest_last (h1 : ¬ pt i + 1 < 16) : (restP c XA (pt i) : sProp 𝕄) ⊢ backP c XA i := by
  unfold backP restP
  rw [if_pos (pt_lt i), if_neg h1, allP_split c XA (bcur i)]
  iintro HR H
  isplitl [H]; · iexact H
  iexact HR

/-- The first point starts. -/
theorem open_first (h0 : pt i = 0) :
    (iprop(invP c XA (pt i) ∗ ∃ W, owes (c : Thread nD τ) 0 W) : sProp 𝕄) ⊢ iprop(firstP c XA i ∗ backP c XA i) := by
  have h1 : pt i + 1 < 16 := by omega
  have hs := rest_swap c XA i h1
  unfold restP at hs
  rw [if_pos (by omega)] at hs
  rw [h0, invP_zero]
  unfold startP firstP
  rw [allP_split c XA (bcur i)]
  iintro ⟨⟨HB, C0, C1, T, HH⟩, HW⟩
  ihave HS := hs $$ HH
  icases HS with ⟨T', HK⟩
  ihave HC := (both_slots (fun s => iprop(cellP c s 0 ∗ cellP c s 1)) (pt i)) $$ [C0 C1]
  · isplitl [C0] <;> iassumption
  icases HC with ⟨⟨D0, D1⟩, ⟨E0, E1⟩⟩
  isplitr [HK]
  · isplitl [HB]; · iexact HB
    isplitl [D0]; · iexact D0
    isplitl [D1]; · iexact D1
    isplitl [E0]; · iexact E0
    isplitl [E1]; · iexact E1
    isplitl [T]; · iexact T
    isplitl [T']; · iexact T'
    iexact HW
  iexact HK

/-- A later point starts, another following; -/
theorem open_mid (h0 : ¬ pt i = 0) (h1 : pt i + 1 < 16) :
    (iprop(invP c XA (pt i) ∗ ∃ W, owes (c : Thread nD τ) 0 W) : sProp 𝕄) ⊢ iprop(midP c XA i ∗ backP c XA i) := by
  rw [invP_mid c XA h0 (pt_lt i)]
  unfold amidP midP
  iintro ⟨⟨HC, B, B', HF, HH⟩, HW⟩
  ihave HS := (rest_swap c XA i h1) $$ HH
  icases HS with ⟨T', HK⟩
  isplitr [HK]
  · isplitl [HC]; · iexact HC
    isplitl [B]; · iexact B
    isplitl [B']; · iexact B'
    isplitl [HF]; · iexact HF
    isplitl [T']; · iexact T'
    iexact HW
  iexact HK

/-- or none. -/
theorem open_last (h0 : ¬ pt i = 0) (h1 : ¬ pt i + 1 < 16) :
    (iprop(invP c XA (pt i) ∗ ∃ W, owes (c : Thread nD τ) 0 W) : sProp 𝕄) ⊢ iprop(lastP c XA i ∗ backP c XA i) := by
  rw [invP_mid c XA h0 (pt_lt i)]
  unfold amidP lastP
  iintro ⟨⟨HC, B, B', HF, HH⟩, HW⟩
  ihave HK := (rest_last c XA i h1) $$ HH
  isplitr [HK]
  · isplitl [HC]; · iexact HC
    isplitl [B]; · iexact B
    isplitl [B']; · iexact B'
    isplitl [HF]; · iexact HF
    iexact HW
  iexact HK

/-- The point ends: what it leaves is what the next one starts from. -/
theorem close_point : (iprop(freeP c (cur i) ∗ bordersP c (cur i) ∗ batchP c XA (bcur i) ∗ nextP c XA i ∗ backP c XA i) : sProp 𝕄)
    ⊢ invP c XA (pt i + 1) := by
  have hlt := pt_lt i
  unfold nextP backP
  by_cases h1 : pt i + 1 < 16
  · rw [invP_mid c XA (by omega) h1]
    unfold underwayP amidP
    rw [if_pos h1, show Ring.sl 2 (pt i + 1 + 1) = cur i from Ring.sl_add 2 (pt i)]
    iintro ⟨HF, B, T, ⟨B', HC⟩, HK⟩
    isplitl [HC]; · iexact HC
    isplitl [B']; · iexact B'
    isplitl [B]; · iexact B
    isplitl [HF]; · iexact HF
    iapply HK; iexact T
  · have e : pt i + 1 = 16 := by omega
    have hr : (restP c XA (pt i + 1) : sProp 𝕄) = allP c XA := by unfold restP; rw [if_neg h1]
    rw [hr, show (invP c XA (pt i + 1) : sProp 𝕄) = overP c XA from by rw [e, invP_end]]
    unfold underwayP overP
    rw [if_neg h1]
    iintro ⟨HF, B, T, ⟨B', HF'⟩, HK⟩
    isplitl [HF HF']
    · iapply (both_slots_back (fun s => freeP c s) (pt i))
      isplitl [HF] <;> iassumption
    isplitl [B B']
    · iapply (both_slots_back (fun s => bordersP c s) (pt i))
      isplitl [B] <;> iassumption
    iapply HK; iexact T

variable (arg2 : Memref sig .tc .vmem S2304x256 .bf16) (harg2 : arg2.IsWhole)
  (arg3 : Memref sig .tc .vmem S1x256 .f32) (harg3 : arg3.IsWhole)
  (arg4 : Memref sig .tc .vmem S1x256x1024 .f32) (harg4 : arg4.IsWhole)

/-- A point from what holds before it to what holds after it, its block stored. -/
def afterP (g2 : Buf (Elt F) (arg2.view.loc (c : Thread nD τ))) (g3 : Buf (Elt F) (arg3.view.loc (c : Thread nD τ))) : sProp 𝕄 :=
  iprop(invP c XA (pt i + 1) ∗ (∃ W, owes (c : Thread nD τ) 0 W)
    ∗ (∃ g6, catM.view.loc (c : Thread nD τ) ↦[catM.view.set]{fullShare} g6)
    ∗ (arg2.view.loc (c : Thread nD τ) ↦[arg2.view.set]{fullShare} g2)
    ∗ (arg3.view.loc (c : Thread nD τ) ↦[arg3.view.set]{fullShare} g3)
    ∗ ∃ g4, (arg4.view.loc (c : Thread nD τ) ↦[arg4.view.set]{fullShare} g4)
        ∗ ⌜arg4.view.read (Elt F) g4 = outV XA (bcur i) (arg2.view.read (Elt F) g2) (arg3.view.read (Elt F) g3)⌝)

/-- One way of starting gives the point. -/
theorem point_of (R : sProp 𝕄)
    (hopen : (iprop(invP c XA (pt i) ∗ ∃ W, owes (c : Thread nD τ) 0 W) : sProp 𝕄) ⊢ iprop(R ∗ backP c XA i))
    (hcut : R ⊢ wp frame (wpE (defs₀ (F := F)) 𝒱₀ (c : Thread nD τ) none) Set.univ
      (k0_part4 (F := F) i xM (Memref.isWhole_whole _) arg2 harg2 arg3 harg3 arg4 harg4 bufM (Memref.isWhole_whole _) catM (Memref.isWhole_whole _) cc0_scratch2)
      (fun r => pastP c XA i))
    (g2 g3 g4 g6) (Q : PUnit → sProp 𝕄) :
    iprop(invP c XA (pt i) ∗ (∃ W, owes (c : Thread nD τ) 0 W) ∗ (catM.view.loc (c : Thread nD τ) ↦[catM.view.set]{fullShare} g6)
      ∗ (arg2.view.loc (c : Thread nD τ) ↦[arg2.view.set]{fullShare} g2)
      ∗ (arg3.view.loc (c : Thread nD τ) ↦[arg3.view.set]{fullShare} g3)
      ∗ (arg4.view.loc (c : Thread nD τ) ↦[arg4.view.set]{fullShare} g4)
      ∗ (afterP c XA i arg2 arg3 arg4 g2 g3 -∗ Q ⟨⟩))
      ⊢ wp frame (wpE (defs₀ (F := F)) 𝒱₀ (c : Thread nD τ) none) Set.univ
      (cc0_conv2d_orion (F := F) i xM (Memref.isWhole_whole _) arg2 harg2 arg3 harg3 arg4 harg4 bufM (Memref.isWhole_whole _) catM (Memref.isWhole_whole _) cc0_scratch2)
      Q := by
  iintro ⟨HI, HW, H6, H2, H3, H4, Hk⟩
  ihave HO := hopen $$ [HI HW]
  · isplitl [HI] <;> iassumption
  icases HO with ⟨HR, HK⟩
  iapply (body_run c XA i arg2 harg2 arg3 harg3 arg4 harg4 R hcut g2 g3 g4 g6 Q)
  isplitl [HR]; · iexact HR
  isplitl [H6]; · iexact H6
  isplitl [H2]; · iexact H2
  isplitl [H3]; · iexact H3
  isplitl [H4]; · iexact H4
  unfold doneP
  iintro ⟨HF, B, T, HN, HW, H6, H2, H3, H4⟩
  iapply Hk
  unfold afterP
  isplitl [HF B T HN HK]
  · iapply (close_point c XA i)
    isplitl [HF]; · iexact HF
    isplitl [B]; · iexact B
    isplitl [T]; · iexact T
    isplitl [HN]; · iexact HN
    iexact HK
  isplitl [HW]; · iexact HW
  isplitl [H6]; · iexact H6
  isplitl [H2]; · iexact H2
  isplitl [H3]; · iexact H3
  iexact H4

theorem point_run (g2 g3 g4 g6) (Q : PUnit → sProp 𝕄) :
    iprop(invP c XA (pt i) ∗ (∃ W, owes (c : Thread nD τ) 0 W) ∗ (catM.view.loc (c : Thread nD τ) ↦[catM.view.set]{fullShare} g6)
      ∗ (arg2.view.loc (c : Thread nD τ) ↦[arg2.view.set]{fullShare} g2)
      ∗ (arg3.view.loc (c : Thread nD τ) ↦[arg3.view.set]{fullShare} g3)
      ∗ (arg4.view.loc (c : Thread nD τ) ↦[arg4.view.set]{fullShare} g4)
      ∗ (afterP c XA i arg2 arg3 arg4 g2 g3 -∗ Q ⟨⟩))
      ⊢ wp frame (wpE (defs₀ (F := F)) 𝒱₀ (c : Thread nD τ) none) Set.univ
      (cc0_conv2d_orion (F := F) i xM (Memref.isWhole_whole _) arg2 harg2 arg3 harg3 arg4 harg4 bufM (Memref.isWhole_whole _) catM (Memref.isWhole_whole _) cc0_scratch2)
      Q := by
  by_cases h0 : pt i = 0
  · exact point_of c XA i arg2 harg2 arg3 harg3 arg4 harg4 _ (open_first c XA i h0) (stage_first c XA i arg2 harg2 arg3 harg3 arg4 harg4 h0) g2 g3 g4 g6 Q
  by_cases h1 : pt i + 1 < 16
  · exact point_of c XA i arg2 harg2 arg3 harg3 arg4 harg4 _ (open_mid c XA i h0 h1) (stage_mid c XA i arg2 harg2 arg3 harg3 arg4 harg4 h0 h1) g2 g3 g4 g6 Q
  · exact point_of c XA i arg2 harg2 arg3 harg3 arg4 harg4 _ (open_last c XA i h0 h1) (stage_last c XA i arg2 harg2 arg3 harg3 arg4 harg4 h0 h1) g2 g3 g4 g6 Q

/-! ## The ends -/

/-- The batch and the half an element of the input is in. -/
def homeSet : Fin 16 × Fin 2 → Finset S16x64x64x256.Idx := fun p => (src p.1 p.2).view.set

theorem mem_homeSet (p : Fin 16 × Fin 2) (y : S16x64x64x256.Idx) :
    y ∈ homeSet p ↔ (y 0).val = p.1.val ∧ (y 3).val / 128 = p.2.val := by
  unfold homeSet
  constructor
  · intro h
    obtain ⟨x, -, hx⟩ := Finset.mem_map.mp h
    have hx : srcIx p.1 p.2 x = y := (src_emb p.1 p.2 x).symm.trans hx
    subst hx
    have a2 : (x 2).val < 128 := (x 2).isLt
    exact ⟨rfl, show (128 * p.2.val + (x 2).val) / 128 = p.2.val by omega⟩
  · rintro ⟨h0, h3⟩
    have a3 : (y 3).val < 256 := (y 3).isLt
    refine Finset.mem_map.mpr ⟨(ValueIdx.ix3 (y 1) (y 2) (⟨(y 3).val % 128, Nat.mod_lt _ (by decide)⟩ : Fin 128) : S64x64x128.Idx),
      Finset.mem_univ _, (src_emb p.1 p.2 _).trans ?_⟩
    funext a
    match a with
    | ⟨0, _⟩ => exact Fin.ext h0.symm
    | ⟨1, _⟩ => rfl
    | ⟨2, _⟩ => rfl
    | ⟨3, _⟩ => exact Fin.ext (show 128 * p.2.val + (y 3).val % 128 = (y 3).val by omega)

theorem home_disjoint : ∀ p q : Fin 16 × Fin 2, p ≠ q → Disjoint (homeSet p) (homeSet q) := by
  rintro ⟨b, t⟩ ⟨b', t'⟩ hne
  rw [Finset.disjoint_left]; intro y hy hy'
  rw [mem_homeSet] at hy hy'
  exact hne (Prod.ext (Fin.ext (hy.1.symm.trans hy'.1)) (Fin.ext (hy.2.symm.trans hy'.2)))

theorem home_cover : (Finset.univ : Finset (Fin 16 × Fin 2)).biUnion homeSet = Finset.univ := by
  ext y; simp only [Finset.mem_biUnion, Finset.mem_univ, true_and, iff_true]
  have a3 : (y 3).val < 256 := (y 3).isLt
  exact ⟨(y 0, ⟨(y 3).val / 128, by omega⟩), (mem_homeSet _ y).mpr ⟨rfl, rfl⟩⟩

/-- The input held whole is every batch at home. -/
theorem all_eq : ((xM.view.loc (c : Thread nD τ)) ↦{fullShare} XA : sProp 𝕄) = allP c XA := by
  rw [Ring.pointsTo_blocks (ℓ := xM.view.loc (c : Thread nD τ)) homeSet home_disjoint home_cover, bigSep_univ_prod]
  unfold allP
  refine congrArg _ (funext fun b => ?_)
  rw [bigSep_fin_two]
  rfl

/-- The kernel's own semaphores. -/
abbrev osem : Fin 2 × Fin 2 → SemLoc sig := fun s => .dma (csm s.1 s.2).sem
theorem ownSemFacts : Pipeline.OwnSemFacts spec0 osem := by decide

theorem ownSems0_eq : (Pipeline.ownSems0 (Ix := Unit) (Name := ℕ) (U := Pipeline.UC sig nD τ) (Lvl := ℕ) (Val := Elt F) (τ := τ) osem c : sProp 𝕄)
    = iprop(cellP c 0 0 ∗ cellP c 0 1 ∗ cellP c 1 0 ∗ cellP c 1 1) :=
  Pipeline.ownSems0_eq_of_list c osem [(0, 0), (0, 1), (1, 0), (1, 1)] (by decide) (by decide)

/-- The matrix whole, in the form a launch hands it over. -/
theorem cat_whole (g : Buf (Elt F) (catM.view.loc (c : Thread nD τ))) :
    (catM.view.loc (c : Thread nD τ) ↦[catM.view.set]{fullShare} g : sProp 𝕄) = (((c : Thread nD τ).loc cc0_scratch1) ↦{fullShare} g : sProp 𝕄) := by
  rw [View.set_whole]

/-- What a launch hands over is what holds before the first point. -/
theorem enter : (iprop(((xM.view.loc (c : Thread nD τ)) ↦{fullShare} XA)
      ∗ Pipeline.ownSems0 (Ix := Unit) (Name := ℕ) (U := Pipeline.UC sig nD τ) (Lvl := ℕ) (Val := Elt F) (τ := τ) osem c
      ∗ ∃ f : Buf (Elt F) ((c : Thread nD τ).loc cc0_scratch0), ((c : Thread nD τ).loc cc0_scratch0) ↦{fullShare} f) : sProp 𝕄) ⊢ invP c XA 0 := by
  rw [all_eq, ownSems0_eq, invP_zero]
  unfold startP
  iintro ⟨HX, ⟨C0, C1, C2, C3⟩, ⟨%f, HB⟩⟩
  isplitl [HB]; · iexists f; irw [bufP_whole]; iexact HB
  isplitl [C0 C1]
  · isplitl [C0] <;> iassumption
  isplitl [C2 C3]
  · isplitl [C2] <;> iassumption
  iexact HX

/-- What holds after the last point is what a launch takes back. -/
theorem leave : (invP c XA 16 : sProp 𝕄) ⊢ iprop(((xM.view.loc (c : Thread nD τ)) ↦{fullShare} XA)
      ∗ Pipeline.ownSems0 (Ix := Unit) (Name := ℕ) (U := Pipeline.UC sig nD τ) (Lvl := ℕ) (Val := Elt F) (τ := τ) osem c
      ∗ ∃ f : Buf (Elt F) ((c : Thread nD τ).loc cc0_scratch0), ((c : Thread nD τ).loc cc0_scratch0) ↦{fullShare} f) := by
  rw [all_eq, ownSems0_eq, invP_end]
  unfold overP freeP
  iintro ⟨⟨⟨I0, I1, C0, C1⟩, ⟨I2, I3, C2, C3⟩⟩, HB, HX⟩
  isplitl [HX]; · iexact HX
  isplitl [C0 C1 C2 C3]
  · isplitl [C0]; · iexact C0
    isplitl [C1]; · iexact C1
    isplitl [C2] <;> iassumption
  iapply (buf_join c)
  isplitr [HB]
  · unfold innsP
    isplitl [I0 I1]
    · isplitl [I0] <;> iassumption
    · isplitl [I2] <;> iassumption
  iexact HB

end Inv

end Cert.Proof.KI
-- ==== Proof.KernelIdeal.Launch.lean ====
/-
  The launch: the pipeline's proof data, its body obligation and the run of @main.
-/
module

public import proofs.«01_k».proof.Proof.KernelIdeal.Inv
public import proofs.«01_k».proof.Proof.Gen.KernelIdeal.Frame
public import Idealize.ShloMosaic.Lib.Pipeline.Routed

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

section Launch
variable (m : (ℓ : Loc nD τ sig) → Buf (Elt F) ℓ) (ρ : Dev nD → PrngReg)

/-- The input as the region finds it. -/
abbrev XA (c : Dev nD) : Buf (Elt F) (xM.view.loc (c : Thread nD τ)) := V m c main_v0

theorem pt_coords (t : Fin cfg0.N) : pt (grid0.coords t) = t.val :=
  (show ∀ t : Fin grid0.N, pt (grid0.coords t) = t.val from by decide) t

/-- The block the point's result is. -/
def outAt (c : Dev nD) (t : Fin cfg0.N) : FVec F S1x256x1024 .f32 :=
  outV (XA m c) (bcur (grid0.coords t)) (iblk m c 0 t) (iblk m c 1 t)

/-- Before point `p`: the kernel's own state, the patch matrix at anything, the generator at anything. -/
def Φ (c : Dev nD) (p : ℕ) : sProp 𝕄 :=
  iprop(invP c (XA m c) p ∗ (∃ g : Buf (Elt F) ((c : Thread nD τ).loc cc0_scratch1), ((c : Thread nD τ).loc cc0_scratch1) ↦{fullShare} g) ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := Φ m c t.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = outAt m c t := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; rfl) t d).trans
    (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; rfl) t d).trans
    (by unfold Dat.fetched Dat.blockOf iblk; rfl)

theorem defs_tc : (defs₀ (F := F)) .tc cfg0.body
    = fun a => cc0_conv2d_orion (grid0.coords a.1) xM (Memref.isWhole_whole _) (win0_0.stage (a.2 0)) (hstage0_0 ((a.2 0).cast nbuf0_0))
        (win0_1.stage (a.2 1)) (hstage0_1 ((a.2 1).cast nbuf0_1)) (win0_2.stage (a.2 2)) (hstage0_2 ((a.2 2).cast nbuf0_2))
        bufM (Memref.isWhole_whole _) catM (Memref.isWhole_whole _) cc0_scratch2 := rfl
theorem prog_eq (t : Fin cfg0.N) : (defs₀ (F := F)) .tc cfg0.body (cfg0.bodyArgs t (cfg0.slots t)) = bodyAt0 t :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, after_w0, after_w1, after_w2]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨HI, ⟨%g6, H6⟩, HP⟩, ⟨%W, -, HW⟩, ⟨%d0, %g0, %hg0, H0⟩, ⟨%d1, %g1, %hg1, H1⟩, ⟨%d2, %gO, -, HO⟩⟩
  ihave H0' := (pointsTo_rep_entails (c : Thread nD τ) (st0_0 t) g0 fullShare) $$ H0
  ihave H1' := (pointsTo_rep_entails (c : Thread nD τ) (st0_1 t) g1 fullShare) $$ H1
  rw [hg0, hg1]
  sl_rw [prog_eq t]
  have hp := point_run c (XA m c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) ((st0_0 t).view.rep (iblk m c 0 t)) ((st0_1 t).view.rep (iblk m c 1 t)) gO g6
  rw [pt_coords] at hp
  iapply (hp _)
  isplitl [HI]; · iexact HI
  isplitl [HW]; · iexists W; iexact HW
  isplitl [H6]; · irw [cat_whole]; iexact H6
  isplitl [H0']; · iexact H0'
  isplitl [H1']; · iexact H1'
  isplitl [HO]; · iexact HO
  unfold afterP
  rw [pt_coords, View.read_rep, View.read_rep]
  iintro ⟨HI, ⟨%W', HW⟩, ⟨%g6', H6⟩, H0, H1, ⟨%g4, H4, %hg4⟩⟩
  isplitl [HI H6 HP]
  · isplitl [HI]; · iexact HI
    isplitl [H6]
    · iexists g6'; irw [← cat_whole]; iexact H6
    iexact HP
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  iexists g4; isplitr; · ipureintro; exact hg4
  iexact H4

/-! ## The run -/

set_option maxHeartbeats 800000 in
theorem hmainC : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

theorem hin (c : Dev nD) : Pipeline.Ends spec0 osem {main_v0} c (V m c) ⊢ (Φ m c 0 : sProp 𝕄) := by
  unfold Pipeline.Ends Φ
  rw [Pipeline.routed_singleton, scopedRest0_eq]
  iintro ⟨HX, HS, ⟨HB, HC⟩, HP⟩
  isplitl [HX HS HB]
  · iapply (enter c (XA m c))
    isplitl [HX]; · iexact HX
    isplitl [HS] <;> iassumption
  isplitl [HC] <;> iassumption

theorem hout (c : Dev nD) : (Φ m c 16 : sProp 𝕄) ⊢ Pipeline.Ends spec0 osem {main_v0} c (V m c) := by
  unfold Pipeline.Ends Φ
  rw [Pipeline.routed_singleton, scopedRest0_eq]
  iintro ⟨HI, HC, HP⟩
  ihave HL := (leave c (XA m c)) $$ HI
  icases HL with ⟨HX, HS, HB⟩
  isplitl [HX]; · iexact HX
  isplitl [HS]; · iexact HS
  isplitl [HB HC]
  · isplitl [HB] <;> iassumption
  iexact HP

/-- What a core's buffers hold in the end: the arguments as launched, the result as the library puts the blocks together. -/
def Final (c : Dev nD) (s : MemSt nD τ sig (Elt F)) : Prop :=
  s.mem ((c : Thread nD τ).loc main_v5) = (dats m 0 c).arrAt 2 cfg0.N
  ∧ s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)

theorem final_of (r : PUnit × MemSt nD τ sig (Elt F)) (h : Pipeline.RoutedPost cfgs (dats m) 0 {main_v0} (V m) (V m) r) (c : Dev nD) :
    Final m c r.2 :=
  ⟨(h c).1 2,
   ((h c).2.2 main_arg0 (Finset.mem_sdiff.mpr ⟨Pipeline.mem_restRefs_of main_arg0 (by decide) (by decide), by decide⟩)).trans (V_main_arg0 m c),
   ((h c).2.2 main_arg1 (Finset.mem_sdiff.mpr ⟨Pipeline.mem_restRefs_of main_arg1 (by decide) (by decide), by decide⟩)).trans (V_main_arg1 m c),
   ((h c).2.2 main_arg2 (Finset.mem_sdiff.mpr ⟨Pipeline.mem_restRefs_of main_arg2 (by decide) (by decide), by decide⟩)).trans (V_main_arg2 m c)⟩

theorem run_main : θ_run defs (onTc (τ := τ) (main (F := F))) (s₀ m ρ) (fun r => (∀ c, Final m c r.2) ∧ r.2.sem = fun _ => 0) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m) (hmain := hmainC m) (hA := fun _ _ => rfl)
    (R := {main_v0}) (hR := by decide) (Y := V m) (hin := hin m) (hout := hout m)
    (Q' := fun r => (∀ c, Final m c r.2) ∧ r.2.sem = fun _ => 0)
    (hQ' := fun r h => ⟨final_of m r h.1, h.2⟩)

end Launch

end Cert.Proof.KI
-- ==== Proof.Spec.lean ====
/-
  The function both programs compute: a 3 × 3 convolution of stride 2 with a zero border, its pixels in the
  multiplexed order, plus the bias.
-/
module

public import Idealize.ShloMosaic.Lib.Pointwise
public import Idealize.ShloMosaic.Lib.Tactic.IndexArith

@[expose] public section

noncomputable section

namespace Cert.Proof.Spec

open Idealize.ShloMosaic

/-- The images, -/
abbrev Images : Type := (⟨4, ![16, 256, 64, 64]⟩ : Shape).Idx → EReal
/-- the weights -/
abbrev Weights : Type := (⟨4, ![256, 256, 3, 3]⟩ : Shape).Idx → EReal
/-- and the bias. -/
abbrev Bias : Type := (⟨1, ![256]⟩ : Shape).Idx → EReal

/-- Channel `ch` of image `b` with its zero border, at row `r` and column `s` counted from the border's corner. -/
def pic (X : Images) (b : Fin 16) (ch : Fin 256) (r s : ℕ) : EReal :=
  if h : (1 ≤ r ∧ r < 65) ∧ 1 ≤ s ∧ s < 65 then X (ix4 b ch ⟨r - 1, by omega⟩ ⟨s - 1, by omega⟩) else 0

/-- The picture row of output pixel `p` under the kernel's top row, -/
def row (p : ℕ) : ℕ := 4 * (p % 256 / 16) + 2 * (p / 512)
/-- and its picture column. -/
def col (p : ℕ) : ℕ := 4 * (p % 16) + 2 * (p / 256 % 2)

/-- Tap `(kh, kw)` of the kernel for output channel `o` of image `b`, the kernel's top left corner at row `r`, column `s`. -/
def tap (X : Images) (W : Weights) (b : Fin 16) (o : Fin 256) (r s : ℕ) (kh kw : Fin 3) : EReal :=
  ∑ ch : Fin 256, pic X b ch (r + kh.val) (s + kw.val) * W (ix4 o ch kh kw)

/-- The nine taps' sum. -/
def conv (X : Images) (W : Weights) (b : Fin 16) (o : Fin 256) (r s : ℕ) : EReal :=
  ∑ k : Fin 9, tap X W b o r s ⟨k.val / 3, by omega⟩ ⟨k.val % 3, by omega⟩

/-- The sum written out. -/
theorem conv_eq (X : Images) (W : Weights) (b : Fin 16) (o : Fin 256) (r s : ℕ) :
    conv X W b o r s = tap X W b o r s 0 0 + tap X W b o r s 0 1 + tap X W b o r s 0 2 + tap X W b o r s 1 0
      + tap X W b o r s 1 1 + tap X W b o r s 1 2 + tap X W b o r s 2 0 + tap X W b o r s 2 1 + tap X W b o r s 2 2 := by
  unfold conv
  rw [Fin.sum_univ_castSucc, Fin.sum_univ_eight]
  rfl

/-- The result at image `b`, channel `o`, pixel `p`. -/
def result (X : Images) (W : Weights) (B : Bias) (b : Fin 16) (o : Fin 256) (p : Fin 1024) : EReal :=
  conv X W b o (row p.val) (col p.val) + B (ix1 o)

/-- A bounds test around a read of the image, or zero, is `pic`. -/
theorem pic_of {P : Prop} [Decidable P] (X : Images) (b : Fin 16) (ch : Fin 256) (r s : ℕ) (i j : P → Fin 64) (z : EReal)
    (hz : z = 0) (hP : P ↔ (1 ≤ r ∧ r < 65) ∧ 1 ≤ s ∧ s < 65) (hi : ∀ h, (i h).val = r - 1) (hj : ∀ h, (j h).val = s - 1) :
    (if h : P then X (ix4 b ch (i h) (j h)) else z) = pic X b ch r s := by
  unfold pic
  by_cases h : P
  · rw [dif_pos h, dif_pos (hP.mp h), show i h = ⟨r - 1, by have := hP.mp h; omega⟩ from Fin.ext (hi h),
      show j h = ⟨s - 1, by have := hP.mp h; omega⟩ from Fin.ext (hj h)]
  · rw [dif_neg h, dif_neg (fun g => h (hP.mpr g)), hz]

/-- A read that needs no test. -/
theorem pic_in (X : Images) (b : Fin 16) (ch : Fin 256) (r s : ℕ) (i j : Fin 64) (hP : (1 ≤ r ∧ r < 65) ∧ 1 ≤ s ∧ s < 65)
    (hi : i.val = r - 1) (hj : j.val = s - 1) : X (ix4 b ch i j) = pic X b ch r s := by
  rw [← pic_of (P := True) X b ch r s (fun _ => i) (fun _ => j) 0 rfl ⟨fun _ => hP, fun _ => trivial⟩ (fun _ => hi) (fun _ => hj), dif_pos trivial]

/-- A sum over patch entries is one over taps and channels. -/
theorem sum_patch (f : Fin 2304 → EReal) :
    ∑ q : Fin 2304, f q = ∑ k : Fin 9, ∑ ch : Fin 256, f ⟨k.val * 256 + ch.val, by omega⟩ := by
  rw [← Fintype.sum_prod_type']
  refine (Fintype.sum_equiv (finProdFinEquiv (m := 9) (n := 256)) (fun p => f ⟨p.1.val * 256 + p.2.val, by omega⟩) f fun p => congrArg f (Fin.ext ?_)).symm
  show p.1.val * 256 + p.2.val = p.2.val + 256 * p.1.val
  omega

end Cert.Proof.Spec
-- ==== Proof.KernelIdeal.Value.lean ====
/-
  What the kernel's result holds, over the extended reals.
-/
module

public import proofs.«01_k».proof.Proof.KernelIdeal.Launch
public import proofs.«01_k».proof.Proof.Spec
public import Idealize.ShloMosaic.Lib.Tactic.CleanTypes
public import Idealize.ShloMosaic.Lib.Pipeline.ValueKit

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The block a grid point writes, at an index. -/
theorem outV_apply (XA : S16x64x64x256.Idx → Elt Ideal .f32) (b : Fin 16) (w : Vec Ideal S2304x256 .bf16) (β : Vec Ideal S1x256 .f32) (o : Fin 256) (p : Fin 1024) :
    outV (F := Ideal) XA b w β (ix3 0 o p) = ∑ k : Fin 2304, patches (F := Ideal) XA b (ix2 p k) * w (ix2 k o) + β (ix2 0 o) := by
  pointwise [outV, k0_pay1, k0_pay98, k0_pay99]

/-- The zero the borders hold. -/
theorem zeroE_ideal : (zeroE : Elt Ideal .f32) = 0 := Ideal.ofBits_zero_f32

/-- The bordered picture in a slot, at the element whose plane and lane are channel `ch`. -/
theorem padded_pic (XA : S16x64x64x256.Idx → Elt Ideal .f32) (X : Spec.Images) (hX : ∀ b r s ch, XA (ix4 b r s ch) = X (ix4 b ch r s))
    (b : Fin 16) (y : S2x2x66x66x128.Idx) (ch : Fin 256) (r s : ℕ) (hc : 128 * (y 1).val + (y 4).val = ch.val) (hr : (y 2).val = r) (hs : (y 3).val = s) :
    padded (F := Ideal) XA b y = Spec.pic X b ch r s := by
  subst hr hs
  unfold padded Spec.pic
  by_cases h : Inside y
  · rw [dif_pos h, dif_pos h, ← hX]
    refine congrArg XA ?_
    rw [ix4_eq_valueIdx]
    exact congrArg (ValueIdx.ix4 b (⟨(y 2).val - 1, by omega⟩ : Fin 64) (⟨(y 3).val - 1, by omega⟩ : Fin 64)) (Fin.ext hc)
  · rw [dif_neg h, dif_neg h]
    exact zeroE_ideal

/-- An entry of the patch matrix: column `256 k + ch` is tap `k`, channel `ch`. -/
theorem patches_apply (XA : S16x64x64x256.Idx → Elt Ideal .f32) (X : Spec.Images) (hX : ∀ b r s ch, XA (ix4 b r s ch) = X (ix4 b ch r s))
    (b : Fin 16) (p : Fin 1024) (k : Fin 9) (ch : Fin 256) :
    patches (F := Ideal) XA b (ix2 p ⟨k.val * 256 + ch.val, by omega⟩)
      = Spec.pic X b ch (Spec.row p.val + k.val / 3) (Spec.col p.val + k.val % 3) := by
  have hp := p.isLt
  have hk := k.isLt
  have hc := ch.isLt
  refine padded_pic XA X hX b (patchIx (ix2 p ⟨k.val * 256 + ch.val, by omega⟩)) ch _ _ ?_ ?_ ?_
  · show 128 * ((k.val * 256 + ch.val) % 256 / 128) + (k.val * 256 + ch.val) % 128 = ch.val
    omega
  · show 2 * (p.val / 256 / 2) + (k.val * 256 + ch.val) / 256 / 3 + 4 * (p.val % 256 / 16) = Spec.row p.val + k.val / 3
    unfold Spec.row
    omega
  · show 2 * (p.val / 256 % 2) + (k.val * 256 + ch.val) / 256 % 3 + 4 * (p.val % 16) = Spec.col p.val + k.val % 3
    unfold Spec.col
    omega

section
variable (m : (ℓ : Loc nD τ sig) → Buf (Elt Ideal) ℓ) (c : Dev nD)

/-- The channels-last images the region finds. -/
theorem images_apply (b : Fin 16) (r s : Fin 64) (ch : Fin 256) :
    (V m c main_v0 : FVec Ideal S16x64x64x256 .f32) (ix4 b r s ch) = (m ((c.tc : Thread nD τ).loc main_arg0) : FVec Ideal S16x256x64x64 .f32) (ix4 b ch r s) := by
  have e : (V m c main_v0 : FVec Ideal S16x64x64x256 .f32) = transpose S16x64x64x256 [0, 2, 3, 1] (m ((c.tc : Thread nD τ).loc main_arg0) : FVec Ideal S16x256x64x64 .f32) transposes_S16x256x64x64_S16x64x64x256_0_2_3_1 := by
    unfold V; after_results_simp <;> rfl
  rw [e]
  pointwise

/-- The weight matrix the region finds: row `256 k + ch` is tap `k`, channel `ch`. -/
theorem weights_apply (k : Fin 9) (ch o : Fin 256) :
    (V m c main_v3 : FVec Ideal S2304x256 .bf16) (ix2 ⟨k.val * 256 + ch.val, by omega⟩ o)
      = (m ((c.tc : Thread nD τ).loc main_arg1) : FVec Ideal S256x256x3x3 .f32) (ix4 o ch ⟨k.val / 3, by omega⟩ ⟨k.val % 3, by omega⟩) := by
  have e : @Eq (FVec Ideal S2304x256 .bf16) (V m c main_v3) <| truncf .bf16 (shapeCast S2304x256 (transpose S3x3x256x256 [2, 3, 1, 0] (m ((c.tc : Thread nD τ).loc main_arg1) : FVec Ideal S256x256x3x3 .f32)
      transposes_S256x256x3x3_S3x3x256x256_2_3_1_0) shapeCasts_S3x3x256x256_S2304x256) bitsLt_bf16_f32 := by
    unfold V; after_results_simp <;> rfl
  rw [e]
  have hk := k.isLt
  have hc := ch.isLt
  pointwise
  refine congrArg (m ((c.tc : Thread nD τ).loc main_arg1) : FVec Ideal S256x256x3x3 .f32) (congrArg₂ (ix4 o ch) (Fin.ext ?_) (Fin.ext ?_))
  · show (k.val * 256 + ch.val) / 768 = k.val / 3
    omega
  · show (k.val * 256 + ch.val) / 256 % 3 = k.val % 3
    omega

/-- The bias row the region finds. -/
theorem bias_apply (o : Fin 256) :
    (V m c main_v4 : FVec Ideal S1x256 .f32) (ix2 0 o) = (m ((c.tc : Thread nD τ).loc main_arg2) : FVec Ideal S256 .f32) (ix1 o) := by
  have e : (V m c main_v4 : FVec Ideal S1x256 .f32) = shapeCast S1x256 (m ((c.tc : Thread nD τ).loc main_arg2) : FVec Ideal S256 .f32) shapeCasts_S256_S1x256 := by
    unfold V; after_results_simp <;> rfl
  rw [e]
  pointwise

/-- The weights' window is the whole matrix at every point, -/
theorem iblk0 (t : Fin cfg0.N) (x : S2304x256.Idx) : (iblk m c 0 t : FVec Ideal S2304x256 .bf16) x = (V m c main_v3 : FVec Ideal S2304x256 .bf16) x := by
  have e : ∀ t : Fin cfg0.N, win0_0.index t = ![0, 0] := by decide +kernel
  show V m c main_v3 ((win0_0.blk t).view.emb x) = _
  refine congrArg (V m c main_v3 : FVec Ideal S2304x256 .bf16) ?_
  blk_ext [e]

/-- and the bias's the whole row. -/
theorem iblk1 (t : Fin cfg0.N) (x : S1x256.Idx) : (iblk m c 1 t : FVec Ideal S1x256 .f32) x = (V m c main_v4 : FVec Ideal S1x256 .f32) x := by
  have e : ∀ t : Fin cfg0.N, win0_1.index t = ![0, 0] := by decide +kernel
  show V m c main_v4 ((win0_1.blk t).view.emb x) = _
  refine congrArg (V m c main_v4 : FVec Ideal S1x256 .f32) ?_
  blk_ext [e]

/-- What a grid point leaves, at an index. -/
theorem outAt_apply (t : Fin cfg0.N) (b : Fin 16) (hb : b.val = t.val) (o : Fin 256) (p : Fin 1024) :
    outAt m c t (ix3 0 o p) = Spec.result (m ((c.tc : Thread nD τ).loc main_arg0)) (m ((c.tc : Thread nD τ).loc main_arg1)) (m ((c.tc : Thread nD τ).loc main_arg2)) b o p := by
  have hbc : bcur (grid0.coords t) = b := Fin.ext (by
    show pt (grid0.coords t) % 16 = b.val
    rw [pt_coords, hb]
    exact Nat.mod_eq_of_lt t.isLt)
  unfold outAt
  rw [hbc]
  refine (outV_apply (V m c main_v0) b (iblk m c 0 t) (iblk m c 1 t) o p).trans ?_
  refine congrArg₂ (· + ·) ?_ ((iblk1 m c t _).trans (bias_apply m c o))
  rw [Spec.sum_patch]
  unfold Spec.conv Spec.tap
  refine Finset.sum_congr rfl fun k _ => Finset.sum_congr rfl fun ch _ => congrArg₂ (· * ·) ?_ ((iblk0 m c t _).trans (weights_apply m c k ch o))
  exact patches_apply (V m c main_v0) _ (images_apply m c) b p k ch

/-- The result as one function of the arguments. -/
def resultOf : FVec Ideal S16x256x1024 .f32 := fun i =>
  Spec.result (m ((c.tc : Thread nD τ).loc main_arg0)) (m ((c.tc : Thread nD τ).loc main_arg1)) (m ((c.tc : Thread nD τ).loc main_arg2)) (i 0) (i 1) (i 2)

theorem final_value : (dats m 0 c).arrAt 2 cfg0.N = resultOf m c := by
  have e : ∀ t : Fin cfg0.N, win0_2.index t = ![t.val, 0, 0] := by decide +kernel
  refine (dats m 0 c).arrAt_eq_of_covers 2 _ (by decide +kernel) fun t hf y => ?_
  blk_simp [e]
  rw [after_w2]
  have h0 : (y 0).val < 1 := (y 0).isLt
  have ht := t.isLt
  have hy : y = ix3 (0 : Fin 1) (y 1) (y 2) := by
    funext a
    match a with
    | ⟨0, _⟩ => exact Fin.ext (by show (y 0).val = 0; omega)
    | ⟨1, _⟩ => rfl
    | ⟨2, _⟩ => rfl
  have he : (win0_2.blk t).view.emb y = ix3 (⟨t.val, ht⟩ : Fin 16) (y 1) (y 2) := by
    blk_ext [e]
  rw [he]
  refine (congrArg (outAt m c t) hy).trans ?_
  exact outAt_apply m c t ⟨t.val, ht⟩ rfl (y 1) (y 2)

end

end Cert.Proof.KI
-- ==== Proof.Reference.lean ====
/-
  What the reference's result holds, over the extended reals.
-/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.Proof.RI

open Cert.ReferenceIdeal Cert.ReferenceIdeal.Gen Cert.ReferenceIdeal.Value
open Idealize.ShloMosaic
open Idealize.ShloMosaic.TcCoe Idealize.ShloMosaic.Tactic

/-- Where the reference's rows come from: result pixel `p` is taken from pixel `flat p` of the unpermuted picture. -/
def flat (p : ℕ) : ℕ := (2 * (p % 256 / 16) + p / 512) * 32 + (2 * (p % 16) + p / 256 % 2)

/-- The table of those pixels, as the gather reads it: no entry is negative, so none is moved up. -/
theorem lit_flat : ∀ p : Fin 1024, min (Scalar.select (IntOp.cmpi CmpIPredicate.slt (lit0 p) 0#32) (IntOp.addi (lit0 p) 1024#32) (lit0 p)).toInt.toNat 1023
    = flat p.val := by decide +kernel

/-- The word zero converts to zero. -/
theorem zero_word : (FloatOps.sitofp .f32 (0#32) : Ideal .f32) = 0 := by
  show (((0#32).toInt : ℝ) : EReal) = 0
  simp

/-- One tap as the reference writes it. -/
theorem tap_of {P : Prop} [Decidable P] (X : Spec.Images) (W : Spec.Weights) (b : Fin 16) (o : Fin 256) (r s : ℕ) (kh kw : Fin 3) (i j : P → Fin 64)
    (hP : P ↔ (1 ≤ r + kh.val ∧ r + kh.val < 65) ∧ 1 ≤ s + kw.val ∧ s + kw.val < 65) (hi : ∀ h, (i h).val = r + kh.val - 1)
    (hj : ∀ h, (j h).val = s + kw.val - 1) :
    (∑ x : Fin 256, W (ix4 o x kh kw) * if h : P then X (ix4 b x (i h) (j h)) else (FloatOps.sitofp .f32 (0#32) : Ideal .f32))
      = Spec.tap X W b o r s kh kw :=
  Finset.sum_congr rfl fun x _ => (mul_comm _ _).trans
    (congrArg (· * W (ix4 o x kh kw)) (Spec.pic_of X b x _ _ i j _ zero_word hP hi hj))

/-- A gather along the last axis reads the operand at the start index, read signed and clamped. -/
theorem gather_last {α : Type} (x : S16x256x1024.Idx → α) (idx : IVec S1024x1 32) (b : Fin 16) (o : Fin 256) (p q : Fin 1024)
    (hq : min (idx (ix2 p 0)).toInt.toNat 1023 = q.val) :
    Host.gather gather_S16x256x1024_S1024x1_S16x256x1024_01_2_n_n_2_1_162561 x idx (ix3 b o p) = x (ix3 b o q) := by
  unfold Host.gather
  refine congrArg x (funext fun a => Fin.ext ?_)
  show GatherDims.start _ (ix3 b o p) idx a + GatherDims.batchCoord _ (ix3 b o p) a + GatherDims.offCoord _ (ix3 b o p) a = _
  rw [GatherDims.batchCoord_eq_zero _ _ _ (fun h => List.not_mem_nil (show a ∈ ([] : List (Fin 3)) from h))]
  match a with
  | ⟨0, _⟩ =>
    have h : GatherDims.start gather_S16x256x1024_S1024x1_S16x256x1024_01_2_n_n_2_1_162561 (ix3 b o p) idx (0 : Fin 3) = 0 := by
      unfold GatherDims.start; rw [dif_neg (by decide)]
    exact congrArg (fun n => n + 0 + _) h |>.trans (by simp only [Nat.zero_add]; rfl)
  | ⟨1, _⟩ =>
    have h : GatherDims.start gather_S16x256x1024_S1024x1_S16x256x1024_01_2_n_n_2_1_162561 (ix3 b o p) idx (1 : Fin 3) = 0 := by
      unfold GatherDims.start; rw [dif_neg (by decide)]
    exact congrArg (fun n => n + 0 + _) h |>.trans (by simp only [Nat.zero_add]; rfl)
  | ⟨2, _⟩ =>
    have h : GatherDims.start gather_S16x256x1024_S1024x1_S16x256x1024_01_2_n_n_2_1_162561 (ix3 b o p) idx (2 : Fin 3) = q.val := by
      unfold GatherDims.start
      rw [dif_pos (show (2 : Fin 3) ∈ gather_S16x256x1024_S1024x1_S16x256x1024_01_2_n_n_2_1_162561.startIndexMap from List.mem_singleton.mpr rfl)]
      refine Eq.trans ?_ hq
      refine congrArg (fun i => min (idx i).toInt.toNat 1023) (funext fun e => Fin.ext ?_)
      match e with
      | ⟨0, _⟩ => rfl
      | ⟨1, _⟩ => rfl
    exact congrArg (fun n => n + 0 + _) h |>.trans (congrArg (fun n => q.val + 0 + n)
      (GatherDims.offCoord_eq_zero _ _ _ (fun h => ((GatherDims.mem_sKept _ _).mp h).1 (List.mem_singleton.mpr rfl))))

/-- The reference's result at an index. -/
theorem res_apply (m : (ℓ : Loc nD τ sig) → Buf (Elt Ideal) ℓ) (c : Dev nD) (b : Fin 16) (o : Fin 256) (p : Fin 1024) :
    (res_main_v66 m c : FVec Ideal S16x256x1024 .f32) (ix3 b o p)
      = Spec.result (m ((c.tc : Thread nD τ).loc main_arg0)) (m ((c.tc : Thread nD τ).loc main_arg1)) (m ((c.tc : Thread nD τ).loc main_arg2)) b o p := by
  have hp := p.isLt
  unfold res_main_v66
  generalize (m ((c.tc : Thread nD τ).loc main_arg0)) = X
  generalize (m ((c.tc : Thread nD τ).loc main_arg1)) = W
  generalize (m ((c.tc : Thread nD τ).loc main_arg2)) = B
  clean_types
  obtain ⟨q, hq⟩ : ∃ q : Fin 1024, q.val = flat p.val := ⟨⟨flat p.val, by unfold flat; omega⟩, rfl⟩
  have hr : Spec.row p.val = 2 * (q.val / 32) := by unfold Spec.row; rw [hq]; unfold flat; omega
  have hs : Spec.col p.val = 2 * (q.val % 32) := by unfold Spec.col; rw [hq]; unfold flat; omega
  refine (congrArg₂ (· + ·) (gather_last _ _ b o p q ?_) rfl).trans ?_
  · pointwise
    rw [show S1024.rowMajor (ix1 p) = p from Fin.ext (Shape.rowMajor_val_one (ix1 p))]
    exact (lit_flat p).trans hq.symm
  · unfold Spec.result
    rw [hr, hs, Spec.conv_eq]
    pointwise
    refine congrArg (· + B (ix1 o)) ?_
    have hq1 := q.isLt
    refine congrArg₂ (· + ·) (congrArg₂ (· + ·) (congrArg₂ (· + ·) (congrArg₂ (· + ·) (congrArg₂ (· + ·) (congrArg₂ (· + ·) (congrArg₂ (· + ·) (congrArg₂ (· + ·)
      (tap_of X W b o _ _ 0 0 _ _ ?_ ?_ ?_) (tap_of X W b o _ _ 0 1 _ _ ?_ ?_ ?_)) (tap_of X W b o _ _ 0 2 _ _ ?_ ?_ ?_))
      (tap_of X W b o _ _ 1 0 _ _ ?_ ?_ ?_)) (tap_of X W b o _ _ 1 1 _ _ ?_ ?_ ?_)) (tap_of X W b o _ _ 1 2 _ _ ?_ ?_ ?_))
      (tap_of X W b o _ _ 2 0 _ _ ?_ ?_ ?_)) (tap_of X W b o _ _ 2 1 _ _ ?_ ?_ ?_)) (tap_of X W b o _ _ 2 2 _ _ ?_ ?_ ?_)
    all_goals simp only [Fin.val_zero, Fin.val_one, Fin.val_two, Nat.add_zero]
    all_goals first | omega | exact fun _ => trivial

/-- An index of the result is made of its coordinates. -/
theorem ix3_eta (i : S16x256x1024.Idx) : i = ix3 (i 0 : Fin 16) (i 1 : Fin 256) (i 2 : Fin 1024) := by
  funext a
  match a with
  | ⟨0, _⟩ => rfl
  | ⟨1, _⟩ => rfl
  | ⟨2, _⟩ => rfl

end Cert.Proof.RI
-- ==== Proof.lean ====
/-
  The certificate: every program runs to its end with its arguments unchanged and every semaphore at zero, the kernel's
  idealization is the kernel's own text, and it computes what the reference computes.
-/
module

public import proofs.«01_k».proof.Defs
public import proofs.«01_k».proof.Proof.Gen.ReferenceIdeal.Run
public import proofs.«01_k».proof.Proof.Kernel.Launch
public import proofs.«01_k».proof.Proof.KernelIdeal.Launch
public import proofs.«01_k».proof.Proof.KernelIdeal.Value
public import proofs.«01_k».proof.Proof.Reference
public import Idealize.ShloMosaic.Adequacy
public import Idealize.ShloMosaic.Init

@[expose] public section

noncomputable section

namespace Cert.Proof

open Idealize.ShloMosaic Idealize.SL.Sem

/-- The kernel runs. -/
theorem frame_kernel : @Cert.quiescent_Kernel Cert.Kernel.Gen.facts := fun m ρ _ =>
  (θ_run Cert.Kernel.defs _ _).mono (fun _ h => ⟨fun c => (h.1 c).2, h.2⟩) (K.run_main (F := Bits) m ρ)

/-- Its idealization runs. -/
theorem frame_ideal : @Cert.quiescent_KernelIdeal Cert.KernelIdeal.Gen.facts := fun m ρ _ =>
  (θ_run Cert.KernelIdeal.defs _ _).mono (fun _ h => ⟨fun c => (h.1 c).2, h.2⟩) (KI.run_main (F := Ideal) m ρ)

/-- The reference runs; it has no semaphore. -/
theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments both end with the same result. -/
theorem algebraic : @Cert.algebraic_KernelIdeal_ReferenceIdeal Cert.KernelIdeal.Gen.facts Cert.ReferenceIdeal.Gen.facts := by
  intro m ρ m' ρ' _ hargs
  refine ⟨fun c => KI.resultOf m c,
    (θ_run Cert.KernelIdeal.defs _ _).mono (fun _ h c => ⟨(h.1 c).1.trans (KI.final_value m c), (h.1 c).2⟩) (KI.run_main (F := Ideal) m ρ),
    (θ_run Cert.ReferenceIdeal.defs _ _).mono (fun _ h c => ⟨(h c).1.trans ?_, (h c).2⟩) (Cert.ReferenceIdeal.Value.run (F := Ideal) m' ρ')⟩
  obtain ⟨h0, h1, h2⟩ := hargs c
  refine funext fun i => ?_
  refine (congrArg (Cert.ReferenceIdeal.Value.res_main_v66 m' c) (RI.ix3_eta i)).trans ?_
  refine (RI.res_apply m' c (i 0) (i 1) (i 2)).trans ?_
  rw [h0, h1, h2]
  rfl

theorem claim : Cert.Claim := ⟨Cert.Kernel.Gen.facts, Cert.KernelIdeal.Gen.facts, Cert.ReferenceIdeal.Gen.facts,
  frame_kernel, frame_ideal, frame_reference, trivial, algebraic⟩

end Cert.Proof

end
